-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg3)) (v2 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S12500x128 : Shape := ⟨2, ![12500, 128]⟩
abbrev S12500x3 : Shape := ⟨2, ![12500, 3]⟩
abbrev S50000x128 : Shape := ⟨2, ![50000, 128]⟩
abbrev S50000x3 : Shape := ⟨2, ![50000, 3]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S_ : Shape := ⟨0, ![]⟩
abbrev S12500 : Shape := ⟨1, ![12500]⟩
abbrev S1x12500 : Shape := ⟨2, ![1, 12500]⟩
abbrev S50000x1 : Shape := ⟨2, ![50000, 1]⟩
abbrev S50000x12500 : Shape := ⟨2, ![50000, 12500]⟩
abbrev S3x12500 : Shape := ⟨2, ![3, 12500]⟩
abbrev S50000x9 : Shape := ⟨2, ![50000, 9]⟩
abbrev S50000x8 : Shape := ⟨2, ![50000, 8]⟩
abbrev S50000x8x8 : Shape := ⟨3, ![50000, 8, 8]⟩

class Facts : Prop where
  bcast_S_S12500x3 : S_.BroadcastsInDim S12500x3 (![] : Fin 0 → Fin S12500x3.rank)
  reducesTo_S12500x3_S_d0_1 : S12500x3.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S12500x128 : S_.BroadcastsInDim S12500x128 (![] : Fin 0 → Fin S12500x128.rank)
  reducesTo_S12500x128_S_d0_1 : S12500x128.ReducesTo [0, 1] S_
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S12500x3_S12500_d1 : S12500x3.ReducesTo [1] S12500
  bcast_S12500_S1x12500_1 : S12500.BroadcastsInDim S1x12500 (![1] : Fin 1 → Fin S1x12500.rank)
  reducesTo_S50000x3_S50000_d1 : S50000x3.ReducesTo [1] S50000
  bcast_S50000_S50000x1_0 : S50000.BroadcastsInDim S50000x1 (![0] : Fin 1 → Fin S50000x1.rank)
  bcast_S50000x1_S50000x12500_0_1 : S50000x1.BroadcastsInDim S50000x12500 (![0, 1] : Fin 2 → Fin S50000x12500.rank)
  bcast_S1x12500_S50000x12500_0_1 : S1x12500.BroadcastsInDim S50000x12500 (![0, 1] : Fin 2 → Fin S50000x12500.rank)
  transposes_S12500x3_S3x12500_1_0 : S12500x3.Transposes [1, 0] S3x12500
  bcast_S_S50000x12500 : S_.BroadcastsInDim S50000x12500 (![] : Fin 0 → Fin S50000x12500.rank)
  sliceFits_S50000x12500_S50000x9 : S50000x12500.Slices (fun _ => 0) S50000x9
  slices_S50000x9_S50000x8_0_0 : S50000x9.Slices ![0, 0] S50000x8
  slices_S50000x9_S50000x8_0_1 : S50000x9.Slices ![0, 1] S50000x8
  reducesTo_S50000x8_S_d0_1 : S50000x8.ReducesTo [0, 1] S_
  bcast_S_S50000x8 : S_.BroadcastsInDim S50000x8 (![] : Fin 0 → Fin S50000x8.rank)
  bcast_S50000x8_S50000x8x8_0_1 : S50000x8.BroadcastsInDim S50000x8x8 (![0, 1] : Fin 2 → Fin S50000x8x8.rank)
  bcast_S50000x8_S50000x8x8_0_2 : S50000x8.BroadcastsInDim S50000x8x8 (![0, 2] : Fin 2 → Fin S50000x8x8.rank)
  reducesTo_S50000x8x8_S50000x8_d2 : S50000x8x8.ReducesTo [2] S50000x8
  dot_S50000x3_S3x12500_S50000x12500_1_0_0_1_n_n_wf : DotDims.WF S50000x3 S3x12500 S50000x12500 [1] [0] [0] [1] [] []

variable [Facts]

def dot_S50000x3_S3x12500_S50000x12500_1_0_0_1_n_n : DotDims S50000x3 S3x12500 S50000x12500 where
  lhsContracting := [1]
  rhsContracting := [0]
  lhsNonContracting := [0]
  rhsNonContracting := [1]
  lhsBatch := []
  rhsBatch := []
  wf := dot_S50000x3_S3x12500_S50000x12500_1_0_0_1_n_n_wf
def fn_part4 {F : FTy → Type} [FloatOps F] (main_v58 : IVec S_ 1) (main_v69 : IVec S_ 1) : IVec S_ 1 :=
  let main_v70 : IVec S_ 1 := andi main_v58 main_v69
  main_v70

def fn_part3 {F : FTy → Type} [FloatOps F] (main_v38 : IVec S_ 1) (main_v52 : FVec F S50000x12500 .f32) : IVec S_ 1 :=
  let main_v53 : FVec F S50000x12500 .f32 := Host.negf main_v52
  let main_values : FVec F S50000x9 .f32 := (fun x => (Host.topK S50000x9 1 (FloatOps.cmpfTotal .gt) x sliceFits_S50000x12500_S50000x9).1) main_v53
  let main_indices : IVec S50000x9 32 := (fun x => (Host.topK S50000x9 1 (FloatOps.cmpfTotal .gt) x sliceFits_S50000x12500_S50000x9).2) main_v53
  let main_v54 : FVec F S50000x8 .f32 := (extractStridedSlice S50000x8 ![0, 0] · slices_S50000x9_S50000x8_0_0) main_values
  let main_v55 : FVec F S50000x8 .f32 := (extractStridedSlice S50000x8 ![0, 1] · slices_S50000x9_S50000x8_0_1) main_values
  let main_v56 : IVec S50000x8 1 := cmpf .ogt main_v54 main_v55
  let main_c_17 : IVec S_ 1 := constantI S_ 1 1#1
  let main_v57 : IVec S_ 1 := (fun x v => Host.reduce IntOp.andi x v reducesTo_S50000x8_S_d0_1 h_S_) main_v56 main_c_17
  let main_v58 : IVec S_ 1 := andi main_v38 main_v57
  let main_v59 : IVec S50000x8 32 := (extractStridedSlice S50000x8 ![0, 0] · slices_S50000x9_S50000x8_0_0) main_indices
  let main_c_18 : IVec S_ 32 := constantI S_ 32 6#32
  let main_v60 : IVec S50000x8 32 := broadcastInDim S50000x8 ![] bcast_S_S50000x8 main_c_18
  let main_v61 : IVec S50000x8 32 := Host.shrui main_v59 main_v60
  let main_v62 : IVec S50000x8x8 32 := broadcastInDim S50000x8x8 ![0, 1] bcast_S50000x8_S50000x8x8_0_1 main_v61
  let main_v63 : IVec S50000x8x8 32 := broadcastInDim S50000x8x8 ![0, 2] bcast_S50000x8_S50000x8x8_0_2 main_v61
  let main_v64 : IVec S50000x8x8 1 := cmpi .eq main_v62 main_v63
  let main_v65 : FVec F S50000x8x8 .f32 := uitofp .f32 main_v64
  let main_cst_19 : FVec F S_ .f32 := constant S_ .f32 0x00000000#32
  let main_v66 : FVec F S50000x8 .f32 := (fun x v => Host.reduceAdd x v reducesTo_S50000x8x8_S50000x8_d2 h_S_) main_v65 main_cst_19
  let main_cst_20 : FVec F S_ .f32 := constant S_ .f32 0x40000000#32
  let main_v67 : FVec F S50000x8 .f32 := broadcastInDim S50000x8 ![] bcast_S_S50000x8 main_cst_20
  let main_v68 : IVec S50000x8 1 := cmpf .ole main_v66 main_v67
  let main_c_21 : IVec S_ 1 := constantI S_ 1 1#1
  let main_v69 : IVec S_ 1 := (fun x v => Host.reduce IntOp.andi x v reducesTo_S50000x8_S_d0_1 h_S_) main_v68 main_c_21
  fn_part4 (F := F) main_v58 main_v69

def fn_part2 {F : FTy → Type} [FloatOps F] (main_arg1 : FVec F S12500x3 .f32) (main_arg3 : FVec F S50000x3 .f32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S12500x3 .f32 := mulf main_arg1 main_arg1
  let main_cst_14 : FVec F S_ .f32 := constant S_ .f32 0x00000000#32
  let main_v40 : FVec F S12500 .f32 := (fun x v => Host.reduceAdd x v reducesTo_S12500x3_S12500_d1 h_S_) main_v39 main_cst_14
  let main_v41 : FVec F S1x12500 .f32 := broadcastInDim S1x12500 ![1] bcast_S12500_S1x12500_1 main_v40
  let main_v42 : FVec F S50000x3 .f32 := mulf main_arg3 main_arg3
  let main_cst_15 : FVec F S_ .f32 := constant S_ .f32 0x00000000#32
  let main_v43 : FVec F S50000 .f32 := (fun x v => Host.reduceAdd x v reducesTo_S50000x3_S50000_d1 h_S_) main_v42 main_cst_15
  let main_v44 : FVec F S50000x1 .f32 := broadcastInDim S50000x1 ![0] bcast_S50000_S50000x1_0 main_v43
  let main_v45 : FVec F S50000x12500 .f32 := broadcastInDim S50000x12500 ![0, 1] bcast_S50000x1_S50000x12500_0_1 main_v44
  let main_v46 : FVec F S50000x12500 .f32 := broadcastInDim S50000x12500 ![0, 1] bcast_S1x12500_S50000x12500_0_1 main_v41
  let main_v47 : FVec F S50000x12500 .f32 := addf main_v45 main_v46
  let main_v48 : FVec F S3x12500 .f32 := (transpose S3x12500 [1, 0] · transposes_S12500x3_S3x12500_1_0) main_arg1
  let main_v49 : FVec F S50000x12500 .f32 := (fun l r => Host.dotGeneral dot_S50000x3_S3x12500_S50000x12500_1_0_0_1_n_n none l r) main_arg3 main_v48
  let main_cst_16 : FVec F S_ .f32 := constant S_ .f32 0x40000000#32
  let main_v50 : FVec F S50000x12500 .f32 := broadcastInDim S50000x12500 ![] bcast_S_S50000x12500 main_cst_16
  let main_v51 : FVec F S50000x12500 .f32 := mulf main_v50 main_v49
  let main_v52 : FVec F S50000x12500 .f32 := subf main_v47 main_v51
  fn_part3 (F := F) main_v38 main_v52

def fn_part1 {F : FTy → Type} [FloatOps F] (main_arg1 : FVec F S12500x3 .f32) (main_arg3 : FVec F S50000x3 .f32) (main_arg5 : FVec F S128x128 .f32) (main_arg6 : FVec F S128 .f32) (main_arg7 : FVec F S128x128 .f32) (main_arg8 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg3 main_arg8 main_v33

def fn {F : FTy → Type} [FloatOps F] (main_arg0 : FVec F S12500x128 .f32) (main_arg1 : FVec F S12500x3 .f32) (main_arg2 : FVec F S50000x128 .f32) (main_arg3 : FVec F S50000x3 .f32) (main_arg4 : IVec S50000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S12500x3 .f32 := Host.absf main_arg1
  let main_cst : FVec F S_ .f32 := constant S_ .f32 0x4D9D5B34#32
  let main_v1 : FVec F S12500x3 .f32 := broadcastInDim S12500x3 ![] bcast_S_S12500x3 main_cst
  let main_v2 : IVec S12500x3 1 := cmpf .ole main_v0 main_v1
  let main_c : IVec S_ 1 := constantI S_ 1 1#1
  let main_v3 : IVec S_ 1 := (fun x v => Host.reduce IntOp.andi x v reducesTo_S12500x3_S_d0_1 h_S_) main_v2 main_c
  let main_v4 : FVec F S50000x3 .f32 := Host.absf main_arg3
  let main_cst_0 : FVec F S_ .f32 := constant S_ .f32 0x4D9D5B34#32
  let main_v5 : FVec F S50000x3 .f32 := broadcastInDim S50000x3 ![] bcast_S_S50000x3 main_cst_0
  let main_v6 : IVec S50000x3 1 := cmpf .ole main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S12500x128 .f32 := Host.absf main_arg0
  let main_cst_2 : FVec F S_ .f32 := constant S_ .f32 0x7F800000#32
  let main_v10 : FVec F S12500x128 .f32 := broadcastInDim S12500x128 ![] bcast_S_S12500x128 main_cst_2
  let main_v11 : IVec S12500x128 1 := cmpf .olt main_v9 main_v10
  let main_c_3 : IVec S_ 1 := constantI S_ 1 1#1
  let main_v12 : IVec S_ 1 := (fun x v => Host.reduce IntOp.andi x v reducesTo_S12500x128_S_d0_1 h_S_) main_v11 main_c_3
  let main_v13 : IVec S_ 1 := andi main_v8 main_v12
  let main_v14 : FVec F S50000x128 .f32 := Host.absf main_arg2
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg1 main_arg3 main_arg5 main_arg6 main_arg7 main_arg8 main_v13 main_v16
-- ==== Kernel.lean ====
abbrev S12500x128 : Shape := ⟨2, ![12500, 128]⟩
abbrev S12500x3 : Shape := ⟨2, ![12500, 3]⟩
abbrev S50000x128 : Shape := ⟨2, ![50000, 128]⟩
abbrev S50000x3 : Shape := ⟨2, ![50000, 3]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S_ : Shape := ⟨0, ![]⟩
abbrev S12544x3 : Shape := ⟨2, ![12544, 3]⟩
abbrev S12544x128 : Shape := ⟨2, ![12544, 128]⟩
abbrev S12544x8 : Shape := ⟨2, ![12544, 8]⟩
abbrev S50048x3 : Shape := ⟨2, ![50048, 3]⟩
abbrev S50048x128 : Shape := ⟨2, ![50048, 128]⟩
abbrev S3x50048 : Shape := ⟨2, ![3, 50048]⟩
abbrev S8x50048 : Shape := ⟨2, ![8, 50048]⟩
abbrev S128x1 : Shape := ⟨2, ![128, 1]⟩
abbrev S1x128 : Shape := ⟨2, ![1, 128]⟩
abbrev S128x3 : Shape := ⟨2, ![128, 3]⟩
abbrev S3x128 : Shape := ⟨2, ![3, 128]⟩
abbrev S8x128 : Shape := ⟨2, ![8, 128]⟩
abbrev S196x64x128 : Shape := ⟨3, ![196, 64, 128]⟩
abbrev S196x128 : Shape := ⟨2, ![196, 128]⟩
abbrev S196x1x128 : Shape := ⟨3, ![196, 1, 128]⟩
abbrev S392x128 : Shape := ⟨2, ![392, 128]⟩
abbrev S12544x1 : Shape := ⟨2, ![12544, 1]⟩

abbrev nBuf : Space → Nat
  | .hbm => 52
  | .vmem => 35
  | .smem => 0
  | _ => 0

abbrev bufTy : (tb : Table) → Fin (tcTables nBuf tb) → BufTy
  | .hbm, ⟨0, _⟩ => ⟨S12500x128, .f32⟩
  | .hbm, ⟨1, _⟩ => ⟨S12500x3, .f32⟩
  | .hbm, ⟨2, _⟩ => ⟨S50000x128, .f32⟩
  | .hbm, ⟨3, _⟩ => ⟨S50000x3, .f32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S12544x3, .f32⟩
  | .hbm, ⟨20, _⟩ => ⟨S_, .i32⟩
  | .hbm, ⟨21, _⟩ => ⟨S_, .f32⟩
  | .hbm, ⟨22, _⟩ => ⟨S12544x128, .f32⟩
  | .hbm, ⟨23, _⟩ => ⟨S_, .i32⟩
  | .hbm, ⟨24, _⟩ => ⟨S_, .f32⟩
  | .hbm, ⟨25, _⟩ => ⟨S12544x8, .f32⟩
  | .hbm, ⟨26, _⟩ => ⟨S12544x8, .bf16⟩
  | .hbm, ⟨27, _⟩ => ⟨S_, .i32⟩
  | .hbm, ⟨28, _⟩ => ⟨S_, .f32⟩
  | .hbm, ⟨29, _⟩ => ⟨S50048x3, .f32⟩
  | .hbm, ⟨30, _⟩ => ⟨S_, .i32⟩
  | .hbm, ⟨31, _⟩ => ⟨S_, .f32⟩
  | .hbm, ⟨32, _⟩ => ⟨S50048x128, .f32⟩
  | .hbm, ⟨33, _⟩ => ⟨S3x50048, .f32⟩
  | .hbm, ⟨34, _⟩ => ⟨S_, .i32⟩
  | .hbm, ⟨35, _⟩ => ⟨S_, .f32⟩
  | .hbm, ⟨36, _⟩ => ⟨S8x50048, .f32⟩
  | .hbm, ⟨37, _⟩ => ⟨S8x50048, .bf16⟩
  | .hbm, ⟨38, _⟩ => ⟨S128x1, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S128x128, .f32⟩
  | .hbm, ⟨46, _⟩ => ⟨S128x128, .f32⟩
  | .hbm, ⟨47, _⟩ => ⟨S12544x128, .f32⟩
  | .hbm, ⟨48, _⟩ => ⟨S12544x128, .f32⟩
  | .hbm, ⟨49, _⟩ => ⟨S12544x128, .f32⟩
  | .hbm, ⟨50, _⟩ => ⟨S50048x128, .f32⟩
  | .hbm, ⟨51, _⟩ => ⟨S50000x128, .f32⟩
  | .local _ .vmem, ⟨0, _⟩ => ⟨S128x128, .f32⟩
  | .local _ .vmem, ⟨1, _⟩ => ⟨S128x128, .f32⟩
  | .local _ .vmem, ⟨2, _⟩ => ⟨S128x3, .f32⟩
  | .local _ .vmem, ⟨3, _⟩ => ⟨S128x3, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S3x128, .f32⟩
  | .local _ .vmem, ⟨15, _⟩ => ⟨S3x128, .f32⟩
  | .local _ .vmem, ⟨16, _⟩ => ⟨S8x128, .bf16⟩
  | .local _ .vmem, ⟨17, _⟩ => ⟨S8x128, .bf16⟩
  | .local _ .vmem, ⟨18, _⟩ => ⟨S128x128, .f32⟩
  | .local _ .vmem, ⟨19, _⟩ => ⟨S128x128, .f32⟩
  | .local _ .vmem, ⟨20, _⟩ => ⟨S12544x8, .bf16⟩
  | .local _ .vmem, ⟨21, _⟩ => ⟨S12544x128, .f32⟩
  | .local _ .vmem, ⟨22, _⟩ => ⟨S12544x128, .f32⟩
  | .local _ .vmem, ⟨23, _⟩ => ⟨S12544x128, .f32⟩
  | .local _ .vmem, ⟨24, _⟩ => ⟨S128x128, .f32⟩
  | .local _ .vmem, ⟨25, _⟩ => ⟨S128x1, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S128x128, .f32⟩
  | .local _ .vmem, ⟨34, _⟩ => ⟨S128x128, .f32⟩
  | _, _ => ⟨S12500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_call0_v0 : Ref sig .tc := ⟨.hbm, 18, rfl⟩
abbrev main_v0 : Ref sig .tc := ⟨.hbm, 19, rfl⟩
abbrev main_c : Ref sig .tc := ⟨.hbm, 20, rfl⟩
abbrev main_call1_v0 : Ref sig .tc := ⟨.hbm, 21, rfl⟩
abbrev main_v1 : Ref sig .tc := ⟨.hbm, 22, rfl⟩
abbrev main_c_0 : Ref sig .tc := ⟨.hbm, 23, rfl⟩
abbrev main_call2_v0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_call3_v0 : Ref sig .tc := ⟨.hbm, 28, rfl⟩
abbrev main_v4 : Ref sig .tc := ⟨.hbm, 29, rfl⟩
abbrev main_c_2 : Ref sig .tc := ⟨.hbm, 30, rfl⟩
abbrev main_call4_v0 : Ref sig .tc := ⟨.hbm, 31, rfl⟩
abbrev main_v5 : Ref sig .tc := ⟨.hbm, 32, rfl⟩
abbrev main_v6 : Ref sig .tc := ⟨.hbm, 33, rfl⟩
abbrev main_c_3 : Ref sig .tc := ⟨.hbm, 34, rfl⟩
abbrev main_call5_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev main_v18_2 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg16_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem16_1 : DmaSem sig := 34

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S12544x8 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S12544x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S12544x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S12544x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S128x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S12500x128 : Shape := ⟨2, ![12500, 128]⟩
abbrev S12500x3 : Shape := ⟨2, ![12500, 3]⟩
abbrev S50000x128 : Shape := ⟨2, ![50000, 128]⟩
abbrev S50000x3 : Shape := ⟨2, ![50000, 3]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S_ : Shape := ⟨0, ![]⟩
abbrev S12500 : Shape := ⟨1, ![12500]⟩
abbrev S1x12500 : Shape := ⟨2, ![1, 12500]⟩
abbrev S50000x1 : Shape := ⟨2, ![50000, 1]⟩
abbrev S50000x12500 : Shape := ⟨2, ![50000, 12500]⟩
abbrev S3x12500 : Shape := ⟨2, ![3, 12500]⟩
abbrev S50000x8 : Shape := ⟨2, ![50000, 8]⟩
abbrev S50000x8x1 : Shape := ⟨3, ![50000, 8, 1]⟩
abbrev S1 : Shape := ⟨1, ![1]⟩
abbrev S1x1x1 : Shape := ⟨3, ![1, 1, 1]⟩
abbrev S50000x8x128 : Shape := ⟨3, ![50000, 8, 128]⟩
abbrev S1x128 : Shape := ⟨2, ![1, 128]⟩
abbrev S50000x1x128 : Shape := ⟨3, ![50000, 1, 128]⟩
abbrev S1x1x128 : Shape := ⟨3, ![1, 1, 128]⟩
abbrev S50000x256 : Shape := ⟨2, ![50000, 256]⟩

abbrev nBuf : Space → Nat
  | .hbm => 153
  | .vmem => 0
  | .smem => 0
  | _ => 0

abbrev hbmTy0_0 (i : Nat) : BufTy := match i % 128 with
  | 0 => ⟨S12500x128, .f32⟩
  | 1 => ⟨S12500x3, .f32⟩
  | 2 => ⟨S50000x128, .f32⟩
  | 3 => ⟨S50000x3, .f32⟩
  | 4 => ⟨S50000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S12500x3, .f32⟩
  | 18 => ⟨S_, .f32⟩
  | 19 => ⟨S12500, .f32⟩
  | 20 => ⟨S1x12500, .f32⟩
  | 21 => ⟨S50000x3, .f32⟩
  | 22 => ⟨S_, .f32⟩
  | 23 => ⟨S50000, .f32⟩
  | 24 => ⟨S50000x1, .f32⟩
  | 25 => ⟨S50000x12500, .f32⟩
  | 26 => ⟨S50000x12500, .f32⟩
  | 27 => ⟨S50000x12500, .f32⟩
  | 28 => ⟨S3x12500, .f32⟩
  | 29 => ⟨S50000x12500, .f32⟩
  | 30 => ⟨S_, .f32⟩
  | 31 => ⟨S50000x12500, .f32⟩
  | 32 => ⟨S50000x12500, .f32⟩
  | 33 => ⟨S50000x12500, .f32⟩
  | 34 => ⟨S50000x12500, .f32⟩
  | 35 => ⟨S50000x8, .f32⟩
  | 36 => ⟨S50000x8, .i32⟩
  | 37 => ⟨S_, .i32⟩
  | 38 => ⟨S50000x8, .i32⟩
  | 39 => ⟨S50000x8, .i1⟩
  | 40 => ⟨S_, .i32⟩
  | 41 => ⟨S50000x8, .i32⟩
  | 42 => ⟨S50000x8, .i32⟩
  | 43 => ⟨S50000x8, .i32⟩
  | 44 => ⟨S50000x8x1, .i32⟩
  | 45 => ⟨S1, .i32⟩
  | 46 => ⟨S_, .i32⟩
  | 47 => ⟨S50000x8x1, .i32⟩
  | 48 => ⟨S50000x8x1, .i1⟩
  | 49 => ⟨S1x1x1, .i32⟩
  | 50 => ⟨S50000x8x1, .i32⟩
  | 51 => ⟨S50000x8x1, .i1⟩
  | 52 => ⟨S50000x8x1, .i1⟩
  | 53 => ⟨S_, .i1⟩
  | 54 => ⟨S50000x8, .i1⟩
  | 55 => ⟨S50000x8x128, .f32⟩
  | 56 => ⟨S50000x8x128, .i1⟩
  | 57 => ⟨S_, .f32⟩
  | 58 => ⟨S50000x8x128, .f32⟩
  | 59 => ⟨S50000x8x128, .f32⟩
  | 60 => ⟨S50000x128, .f32⟩
  | 61 => ⟨S1x128, .f32⟩
  | 62 => ⟨S50000x128, .f32⟩
  | 63 => ⟨S50000x128, .f32⟩
  | 64 => ⟨S50000x1x128, .f32⟩
  | 65 => ⟨S50000x8x128, .f32⟩
  | 66 => ⟨S1x1x128, .f32⟩
  | 67 => ⟨S50000x8x128, .f32⟩
  | 68 => ⟨S50000x8x128, .f32⟩
  | 69 => ⟨S50000x8x128, .f32⟩
  | 70 => ⟨S1x1x128, .f32⟩
  | 71 => ⟨S50000x8x128, .f32⟩
  | 72 => ⟨S50000x8x128, .f32⟩
  | 73 => ⟨S50000x8x128, .f32⟩
  | 74 => ⟨S50000x8x128, .f32⟩
  | 75 => ⟨S_, .f32⟩
  | 76 => ⟨S50000x8, .f32⟩
  | 77 => ⟨S_, .f32⟩
  | 78 => ⟨S_, .f32⟩
  | 79 => ⟨S50000x8, .f32⟩
  | 80 => ⟨S50000x8, .f32⟩
  | 81 => ⟨S_, .f32⟩
  | 82 => ⟨S50000, .f32⟩
  | 83 => ⟨S50000x1, .f32⟩
  | 84 => ⟨S50000x8, .f32⟩
  | 85 => ⟨S50000x8, .f32⟩
  | 86 => ⟨S50000x8, .f32⟩
  | 87 => ⟨S_, .f32⟩
  | 88 => ⟨S50000, .f32⟩
  | 89 => ⟨S50000x1, .f32⟩
  | 90 => ⟨S50000x8, .f32⟩
  | 91 => ⟨S50000x8, .f32⟩
  | 92 => ⟨S50000x8x1, .f32⟩
  | 93 => ⟨S50000x8x128, .f32⟩
  | 94 => ⟨S50000x8x128, .f32⟩
  | 95 => ⟨S_, .f32⟩
  | 96 => ⟨S50000x128, .f32⟩
  | 97 => ⟨S50000x256, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S_, .i32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S12500x128, .f32⟩

abbrev hbmTy0_1 (i : Nat) : BufTy := match i % 128 with
  | 0 => ⟨S_, .f32⟩
  | 1 => ⟨S50000, .f32⟩
  | 2 => ⟨S50000x1, .f32⟩
  | 3 => ⟨S50000x1, .f32⟩
  | 4 => ⟨S50000x1, .f32⟩
  | 5 => ⟨S_, .f32⟩
  | 6 => ⟨S_, .i1⟩
  | 7 => ⟨S_, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S_, .f32⟩
  | 14 => ⟨S50000x1, .f32⟩
  | 15 => ⟨S50000x1, .f32⟩
  | 16 => ⟨S50000x1, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | _ => ⟨S12500x128, .f32⟩

abbrev hbmTy (i : Nat) : BufTy := match i / 128 with
  | 0 => hbmTy0_0 i
  | 1 => hbmTy0_1 i
  | _ => ⟨S12500x128, .f32⟩

abbrev bufTy : (tb : Table) → Fin (tcTables nBuf tb) → BufTy
  | .hbm, ⟨i, _⟩ => hbmTy i
  | _, _ => ⟨S12500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_values : Ref sig .tc := ⟨.hbm, 35, rfl⟩
abbrev main_indices : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_2 : Ref sig .tc := ⟨.hbm, 75, rfl⟩
abbrev main_v31 : Ref sig .tc := ⟨.hbm, 76, rfl⟩
abbrev main_cst_3 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_5 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_6 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call1_cst : Ref sig .tc := ⟨.hbm, 102, rfl⟩
abbrev main_call1_v0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_7 : Ref sig .tc := ⟨.hbm, 109, rfl⟩
abbrev main_v58 : Ref sig .tc := ⟨.hbm, 110, rfl⟩
abbrev main_v59 : Ref sig .tc := ⟨.hbm, 111, rfl⟩
abbrev main_cst_8 : Ref sig .tc := ⟨.hbm, 112, rfl⟩
abbrev main_v60 : Ref sig .tc := ⟨.hbm, 113, rfl⟩
abbrev main_v61 : Ref sig .tc := ⟨.hbm, 114, rfl⟩
abbrev main_c : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_v12 : Ref sig .tc := ⟨.hbm, 132, rfl⟩
abbrev main_call2_cst_3 : Ref sig .tc := ⟨.hbm, 133, rfl⟩
abbrev main_call2_v13 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_9 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩

abbrev nD : Nat := 1
abbrev τ : Topo := Topo.v7x

variable {F : FTy → Type} [FloatOps F]
-- ==== Proof.RefRun.lean ====
/- What the reference computes, operation by operation: the generated run and reads, brought together. -/
module

public import proofs.«01_k».proof.Proof.Gen.ReferenceIdeal.Run
public import proofs.«01_k».proof.Proof.Gen.ReferenceIdeal.Read
-- ==== Proof.Select.lean ====
/- Which rows the kernel's distance threshold selects.

   The kernel reads the eighth smallest distance of a query off the two smallest distances of every chunk of 64 rows.
   When the eight smallest distances are distinct, below every other one, and no three of their rows share a chunk, that
   threshold is exactly the eighth smallest distance, so the rows at or below it are the eight nearest. -/
module

public import Idealize.ShloMosaic.Lib.Pointwise

@[expose] public section

noncomputable section

namespace Cert.Proof

/-- The smallest of finitely many extended reals, `⊤` of none. -/
def low {n : Nat} (f : Fin n → EReal) : EReal := Finset.univ.fold min ⊤ f

theorem low_le {n : Nat} (f : Fin n → EReal) (i : Fin n) : low f ≤ f i :=
  Finset.inf_le (f := f) (Finset.mem_univ i)

/-- A lower bound that is attained is the smallest. -/
theorem low_eq {n : Nat} (f : Fin n → EReal) (a : EReal) (h : ∀ i, a ≤ f i) (i : Fin n) (hi : f i = a) : low f = a :=
  le_antisymm (hi ▸ low_le f i) (Finset.le_inf (f := f) fun j _ => h j)

/-- The smallest is attained or is `⊤`. -/
theorem low_mem {n : Nat} (f : Fin n → EReal) : low f = ⊤ ∨ ∃ i, low f = f i := by
  have key : ∀ s : Finset (Fin n), s.fold min ⊤ f = ⊤ ∨ ∃ i ∈ s, s.fold min ⊤ f = f i := by
    intro s
    induction s using Finset.induction_on with
    | empty => exact Or.inl (by simp)
    | insert a s ha ih =>
      rw [Finset.fold_insert ha]
      rcases le_total (f a) (s.fold min ⊤ f) with h | h
      · exact Or.inr ⟨a, Finset.mem_insert_self _ _, min_eq_left h⟩
      · rw [min_eq_right h]
        rcases ih with ih | ⟨i, hi, e⟩
        · exact Or.inl ih
        · exact Or.inr ⟨i, Finset.mem_insert_of_mem hi, e⟩
  rcases key Finset.univ with h | ⟨i, _, e⟩
  · exact Or.inl h
  · exact Or.inr ⟨i, e⟩

/-- The entries equal to the smallest replaced by `⊤`. -/
def strike {n : Nat} (x : Fin n → EReal) : Fin n → EReal := fun c => if x c = low x then ⊤ else x c

/-- What is left after the first `i` of eight levels `a 0 < … < a 7` are struck. -/
def Left {n : Nat} (a : Nat → EReal) (i : Nat) (x : Fin n → EReal) : Prop :=
  (∀ c, (∃ k, i ≤ k ∧ k ≤ 7 ∧ x c = a k) ∨ a 7 < x c) ∧ ∀ k, i ≤ k → k ≤ 7 → ∃ c, x c = a k

variable {n : Nat} {a : Nat → EReal}

theorem Left.low_eq (ha : ∀ i j, i < j → j ≤ 7 → a i < a j) {i : Nat} (hi : i ≤ 7) {x : Fin n → EReal} (h : Left a i x) :
    low x = a i := by
  have mono : ∀ k, i ≤ k → k ≤ 7 → a i ≤ a k := fun k h1 h2 => by
    rcases Nat.lt_or_eq_of_le h1 with h' | rfl
    · exact (ha i k h' h2).le
    · exact le_rfl
  obtain ⟨c, hc⟩ := h.2 i le_rfl hi
  refine Cert.Proof.low_eq x (a i) (fun c => ?_) c hc
  rcases h.1 c with ⟨k, h1, h2, e⟩ | hlt
  · exact e ▸ mono k h1 h2
  · exact (mono 7 hi le_rfl).trans hlt.le

theorem Left.strike (ha : ∀ i j, i < j → j ≤ 7 → a i < a j) (htop : a 7 < ⊤) {i : Nat} (hi : i ≤ 7) {x : Fin n → EReal}
    (h : Left a i x) : Left a (i + 1) (strike x) := by
  have hl := h.low_eq ha hi
  constructor
  · intro c
    unfold Cert.Proof.strike
    rw [hl]
    by_cases e : x c = a i
    · rw [if_pos e]; exact Or.inr htop
    · rw [if_neg e]
      rcases h.1 c with ⟨k, h1, h2, e'⟩ | hlt
      · refine Or.inl ⟨k, ?_, h2, e'⟩
        rcases Nat.lt_or_eq_of_le h1 with h' | rfl
        · exact h'
        · exact absurd e' e
      · exact Or.inr hlt
  · intro k h1 h2
    obtain ⟨c, hc⟩ := h.2 k (by omega) h2
    refine ⟨c, ?_⟩
    unfold Cert.Proof.strike
    rw [hl, if_neg, hc]
    rw [hc]; exact (ha i k (by omega) h2).ne'

/-- Row `r` of chunk `c`. -/
def rowOf (c : Fin 196) (r : Fin 64) : Fin 12544 := ⟨c.val * 64 + r.val, by omega⟩

/-- The smallest distance of a chunk. -/
def low1 (D : Fin 12544 → EReal) (c : Fin 196) : EReal := low fun r : Fin 64 => D (rowOf c r)

/-- The smallest distance of a chunk above its smallest. -/
def low2 (D : Fin 12544 → EReal) (c : Fin 196) : EReal :=
  low fun r : Fin 64 => if D (rowOf c r) = low1 D c then ⊤ else D (rowOf c r)

/-- The two smallest distances of every chunk, the smallest of each first. -/
def cands (D : Fin 12544 → EReal) (c : Fin 392) : EReal :=
  if h : c.val < 196 then low1 D ⟨c.val, h⟩ else low2 D ⟨c.val - 196, by omega⟩

/-- The kernel's threshold: the eighth level of the candidates. -/
def thr (D : Fin 12544 → EReal) : EReal :=
  low (strike (strike (strike (strike (strike (strike (strike (cands D))))))))

/-- The eight rows `s 0 … s 7` are the nearest: their distances increase strictly, every other row is farther, and no three of
    them share a chunk. -/
structure Nearest (D : Fin 12544 → EReal) (s : Fin 8 → Fin 12544) : Prop where
  inc : ∀ i j : Fin 8, i < j → D (s i) < D (s j)
  top : D (s 7) < ⊤
  far : ∀ j, (∃ k, j = s k) ∨ D (s 7) < D j
  share : ∀ i j k : Fin 8, i < j → j < k → (s i).val / 64 = (s k).val / 64 → (s j).val / 64 ≠ (s k).val / 64

variable {D : Fin 12544 → EReal} {s : Fin 8 → Fin 12544}

/-- The level `k` of the eight nearest. -/
def level (D : Fin 12544 → EReal) (s : Fin 8 → Fin 12544) (k : Nat) : EReal := if h : k < 8 then D (s ⟨k, h⟩) else ⊤

theorem level_fin (k : Fin 8) : level D s k.val = D (s k) := by unfold level; rw [dif_pos k.isLt]

theorem level_inc (h : Nearest D s) : ∀ i j, i < j → j ≤ 7 → level D s i < level D s j := by
  intro i j hij hj
  have := h.inc ⟨i, by omega⟩ ⟨j, by omega⟩ hij
  rw [← level_fin (D := D) (s := s) ⟨i, by omega⟩, ← level_fin (D := D) (s := s) ⟨j, by omega⟩] at this
  exact this

theorem level_seven : level D s 7 = D (s 7) := level_fin (7 : Fin 8)

/-- What the nearest rows say of any row. -/
theorem Nearest.of_row (h : Nearest D s) (j : Fin 12544) :
    (∃ k, 0 ≤ k ∧ k ≤ 7 ∧ D j = level D s k) ∨ level D s 7 < D j := by
  rcases h.far j with ⟨k, rfl⟩ | hj
  · exact Or.inl ⟨k.val, Nat.zero_le _, by omega, (level_fin k).symm⟩
  · exact Or.inr (level_seven ▸ hj)

/-- Two rows of the same distance, one of them near: the same row. -/
theorem Nearest.row_unique (h : Nearest D s) (j : Fin 12544) (k : Fin 8) (e : D j = D (s k)) : j = s k := by
  rcases h.far j with ⟨k', rfl⟩ | hj
  · rcases lt_trichotomy k' k with hk | rfl | hk
    · exact absurd e (h.inc _ _ hk).ne
    · rfl
    · exact absurd e (h.inc _ _ hk).ne'
  · have h7 : D (s k) ≤ D (s 7) := by
      rcases Nat.lt_or_eq_of_le (show k.val ≤ 7 by omega) with h' | h'
      · exact (h.inc k 7 h').le
      · rw [show k = 7 from Fin.ext h']
    exact absurd (e ▸ hj) (not_lt.2 h7)

/-- A nearer row than a near row is a near row of smaller rank. -/
theorem Nearest.below (h : Nearest D s) (j : Fin 12544) (k : Fin 8) (e : D j < D (s k)) : ∃ k' : Fin 8, k' < k ∧ j = s k' := by
  rcases h.far j with ⟨k', rfl⟩ | hj
  · refine ⟨k', ?_, rfl⟩
    by_contra hk
    rcases lt_or_eq_of_le (not_lt.1 hk) with hk | rfl
    · exact absurd e (h.inc _ _ hk).asymm
    · exact absurd e (lt_irrefl _)
  · have h7 : D (s k) ≤ D (s 7) := by
      rcases Nat.lt_or_eq_of_le (show k.val ≤ 7 by omega) with h' | h'
      · exact (h.inc k 7 h').le
      · rw [show k = 7 from Fin.ext h']
    exact absurd (e.trans_le h7) hj.asymm

theorem rowOf_div (c : Fin 196) (r : Fin 64) : (rowOf c r).val / 64 = c.val := by
  show (c.val * 64 + r.val) / 64 = c.val
  omega

theorem exists_rowOf (j : Fin 12544) : ∃ c r, rowOf c r = j :=
  ⟨⟨j.val / 64, by omega⟩, ⟨j.val % 64, by omega⟩, Fin.ext (by show j.val / 64 * 64 + j.val % 64 = j.val; omega)⟩

/-- Every candidate is a level or above them, and every level is a candidate. -/
theorem Nearest.left_cands (h : Nearest D s) : Left (level D s) 0 (cands D) := by
  have htop : level D s 7 < ⊤ := level_seven ▸ h.top
  constructor
  · intro c
    have l1 : ∀ c : Fin 196, (∃ k, 0 ≤ k ∧ k ≤ 7 ∧ low1 D c = level D s k) ∨ level D s 7 < low1 D c := by
      intro c
      rcases low_mem (fun r : Fin 64 => D (rowOf c r)) with e | ⟨r, e⟩
      · exact Or.inr (show _ < low _ by rw [e]; exact htop)
      · have := h.of_row (rowOf c r)
        rw [← e] at this; exact this
    unfold cands
    split
    · exact l1 _
    · rename_i hc
      generalize (⟨c.val - 196, _⟩ : Fin 196) = c'
      rcases low_mem (fun r : Fin 64 => if D (rowOf c' r) = low1 D c' then ⊤ else D (rowOf c' r)) with e | ⟨r, e⟩
      · exact Or.inr (show _ < low _ by rw [e]; exact htop)
      · show (∃ k, _ ∧ _ ∧ low _ = _) ∨ _ < low _
        rw [e]
        split
        · exact Or.inr htop
        · exact h.of_row _
  · intro k _ hk
    let k8 : Fin 8 := ⟨k, by omega⟩
    have ek : level D s k = D (s k8) := level_fin k8
    obtain ⟨c, r, hr⟩ := exists_rowOf (s k8)
    have hcr : c.val = (s k8).val / 64 := by rw [← hr, rowOf_div]
    by_cases e1 : low1 D c = D (s k8)
    · refine ⟨⟨c.val, by omega⟩, ?_⟩
      unfold cands
      rw [dif_pos (show c.val < 196 from c.isLt), ek]; exact e1
    · refine ⟨⟨c.val + 196, by omega⟩, ?_⟩
      unfold cands
      rw [dif_neg (show ¬ c.val + 196 < 196 by omega), ek]
      have ec : (⟨c.val + 196 - 196, by omega⟩ : Fin 196) = c := Fin.ext (by show c.val + 196 - 196 = c.val; omega)
      show low2 D ⟨c.val + 196 - 196, _⟩ = _
      rw [ec]
      -- the chunk's smallest is a near row of smaller rank
      have hlt : low1 D c < D (s k8) := lt_of_le_of_ne (by rw [← hr]; exact low_le (fun r : Fin 64 => D (rowOf c r)) r) e1
      rcases low_mem (fun r : Fin 64 => D (rowOf c r)) with e | ⟨r1, e⟩
      · have e' : low1 D c = ⊤ := e
        exact absurd hlt (by rw [e']; exact not_top_lt)
      have e' : low1 D c = D (rowOf c r1) := e
      obtain ⟨k1, hk1, er1⟩ := h.below (rowOf c r1) k8 (e' ▸ hlt)
      refine low_eq _ _ (fun r' => ?_) r ?_
      · split
        · exact le_top
        · rename_i hne
          by_contra hcon
          obtain ⟨k2, hk2, er2⟩ := h.below (rowOf c r') k8 (not_le.1 hcon)
          have c1 : (s k1).val / 64 = (s k8).val / 64 := by rw [← er1, rowOf_div, hcr]
          have c2 : (s k2).val / 64 = (s k8).val / 64 := by rw [← er2, rowOf_div, hcr]
          rcases lt_trichotomy k1 k2 with hk | hk | hk
          · exact h.share k1 k2 k8 hk hk2 c1 c2
          · apply hne; rw [er2, ← hk, ← er1, e']
          · exact h.share k2 k1 k8 hk hk1 c2 c1
      · rw [hr, if_neg (fun x => e1 x.symm)]

/-- The threshold is the eighth nearest distance. -/
theorem Nearest.thr_eq (h : Nearest D s) : thr D = D (s 7) := by
  have ha := level_inc h
  have htop : level D s 7 < ⊤ := level_seven ▸ h.top
  have h0 := h.left_cands
  have h1 := h0.strike ha htop (by omega)
  have h2 := h1.strike ha htop (by omega)
  have h3 := h2.strike ha htop (by omega)
  have h4 := h3.strike ha htop (by omega)
  have h5 := h4.strike ha htop (by omega)
  have h6 := h5.strike ha htop (by omega)
  have h7 := h6.strike ha htop (by omega)
  exact (h7.low_eq ha (by omega)).trans level_seven

/-- The nearest rows are distinct. -/
theorem Nearest.inj (h : Nearest D s) : Function.Injective s := by
  intro i j e
  rcases lt_trichotomy i j with hk | hk | hk
  · exact absurd (congrArg D e) (h.inc _ _ hk).ne
  · exact hk
  · exact absurd (congrArg D e) (h.inc _ _ hk).ne'

/-- The rows at or below the threshold are the eight nearest. -/
theorem Nearest.le_thr_iff (h : Nearest D s) (j : Fin 12544) : D j ≤ thr D ↔ ∃ k, j = s k := by
  rw [h.thr_eq]
  constructor
  · intro hj
    rcases h.far j with hk | hlt
    · exact hk
    · exact absurd hlt (not_lt.2 hj)
  · rintro ⟨k, rfl⟩
    rcases Nat.lt_or_eq_of_le (show k.val ≤ 7 by omega) with h' | h'
    · exact (h.inc k 7 h').le
    · rw [show k = 7 from Fin.ext h']

/-- A sum over the rows, kept where the distance is at most the threshold, is the sum over the eight nearest. -/
theorem Nearest.sum_thr {M : Type*} [AddCommMonoid M] (h : Nearest D s) (f : Fin 12544 → M) (g : Fin 12544 → M)
    (hg : ∀ j, D j ≤ thr D → g j = f j) (hz : ∀ j, ¬ D j ≤ thr D → g j = 0) : ∑ j, g j = ∑ k : Fin 8, f (s k) := by
  classical
  rw [← Finset.sum_subset (Finset.subset_univ (Finset.univ.image s)) (f := g)]
  · rw [Finset.sum_image (fun _ _ _ _ e => h.inj e)]
    exact Finset.sum_congr rfl fun k _ => hg _ ((h.le_thr_iff _).2 ⟨k, rfl⟩)
  · intro j _ hj
    refine hz j fun hle => hj ?_
    obtain ⟨k, rfl⟩ := (h.le_thr_iff j).1 hle
    exact Finset.mem_image_of_mem s (Finset.mem_univ k)

end Cert.Proof

end
-- ==== Proof.Consts.lean ====
/- The float literals of the two programs and of the precondition, as the extended reals they denote. -/
module

public import Idealize.ShloMosaic.Lib.Pointwise
public import Idealize.ShloMosaic.Lib.IdealHost

@[expose] public section

noncomputable section

namespace Cert.Proof

open Idealize.ShloMosaic

theorem lit_inf : Ideal.ofBits .f32 0x7F800000#32 = ⊤ := by
  simp [Ideal.ofBits, Ideal.ieee, -EReal.coe_mul]

theorem lit_neg_inf : Ideal.ofBits .f32 0xFF800000#32 = ⊥ := by
  simp [Ideal.ofBits, Ideal.ieee, -EReal.coe_mul]

theorem lit_two : Ideal.ofBits .f32 0x40000000#32 = ((2 : ℝ) : EReal) := by
  simp [Ideal.ofBits, Ideal.ieee, -EReal.coe_mul]; norm_num

theorem lit_dim : Ideal.ofBits .f32 0x43000000#32 = ((128 : ℝ) : EReal) := by
  simp [Ideal.ofBits, Ideal.ieee, -EReal.coe_mul]; norm_num

/-- The padded decoder rows' coordinate. -/
theorem lit_far : Ideal.ofBits .f32 0x4E6E6B28#32 = ((1000000000 : ℝ) : EReal) := by
  simp [Ideal.ofBits, Ideal.ieee, -EReal.coe_mul]; norm_num

/-- The precondition's bound on the positions. -/
theorem lit_bound : Ideal.ofBits .f32 0x4D9D5B34#32 = ((330000000 : ℝ) : EReal) := by
  simp [Ideal.ofBits, Ideal.ieee, -EReal.coe_mul]; norm_num

end Cert.Proof

end
-- ==== Proof.Spec.lean ====
/- One row of the network, on the extended reals: the parts that the kernel and the reference share. -/
module

public import proofs.«01_k».proof.Proof.Select
public import proofs.«01_k».proof.Proof.Consts

@[expose] public section

noncomputable section

namespace Cert.Proof

open Idealize.ShloMosaic

/-- A projected row: `x · W + b`. -/
def proj (x : Fin 128 → EReal) (W : Fin 128 → Fin 128 → EReal) (b : Fin 128 → EReal) (f : Fin 128) : EReal :=
  ∑ k, x k * W k f + b f

/-- The two-layer perceptron of a row, its first weights cut in the half the attention meets and the half the features meet. -/
def upRow (agg ef : Fin 128 → EReal) (W1a W1b : Fin 128 → Fin 128 → EReal) (b1 : Fin 128 → EReal)
    (W2 : Fin 128 → Fin 128 → EReal) (b2 : Fin 128 → EReal) (f : Fin 128) : EReal :=
  proj (fun x => max (∑ y, agg y * W1a y x + ∑ y, ef y * W1b y x + b1 x) 0) W2 b2 f

/-- The mean of a row. -/
def meanRow (u : Fin 128 → EReal) : EReal := Ideal.div (∑ x, u x) (Ideal.ofBits .f32 0x43000000#32)

/-- The layer norm of a row. -/
def lnRow (u g b : Fin 128 → EReal) (f : Fin 128) : EReal :=
  Ideal.div (u f - meanRow u)
      (Ideal.sqrt (meanRow (fun x => (u x - meanRow u) * (u x - meanRow u)) + Ideal.ofBits .f32 0x3727C5AC#32)) * g f + b f

/-- The kernel's weight of a row: its exponential where the distance is at most the threshold. -/
def wgt (D s : Fin 12544 → EReal) (j : Fin 12544) : EReal := if D j ≤ thr D then Ideal.exp (s j) else 0

/-- The kernel's attention of one query over all rows. -/
def aggK (D : Fin 12544 → EReal) (ka va : Fin 12544 → Fin 128 → EReal) (q : Fin 128 → EReal) (f : Fin 128) : EReal :=
  Ideal.div (∑ j, wgt D (fun j => ∑ x, ka j x * q x) j * va j f) (∑ j, wgt D (fun j => ∑ x, ka j x * q x) j)

/-- The squared length of a position. -/
def sq3 (p : Fin 3 → EReal) : EReal := p 0 * p 0 + p 1 * p 1 + p 2 * p 2

/-- The argument arrays that the first result depends on, by their indices. -/
structure Args where
  df : Fin 12500 → Fin 128 → EReal
  dp : Fin 12500 → Fin 3 → EReal
  ef : Fin 50000 → Fin 128 → EReal
  ep : Fin 50000 → Fin 3 → EReal
  wq : Fin 128 → Fin 128 → EReal
  bq : Fin 128 → EReal
  wk : Fin 128 → Fin 128 → EReal
  bk : Fin 128 → EReal
  wv : Fin 128 → Fin 128 → EReal
  bv : Fin 128 → EReal
  w1 : Fin 256 → Fin 128 → EReal
  b1 : Fin 128 → EReal
  w2 : Fin 128 → Fin 128 → EReal
  b2 : Fin 128 → EReal
  ga : Fin 128 → EReal
  be : Fin 128 → EReal

namespace Args

variable (A : Args)

/-- A decoder row of features, zero past the last. -/
def padF (j : Fin 12544) (k : Fin 128) : EReal := if h : j.val < 12500 then A.df ⟨j.val, h⟩ k else 0

/-- A decoder position, far away past the last. -/
def padP (j : Fin 12544) (a : Fin 3) : EReal :=
  if h : j.val < 12500 then A.dp ⟨j.val, h⟩ a else Ideal.ofBits .f32 0x4E6E6B28#32

/-- What the kernel has for the squared distance of a query to a (padded) decoder row. -/
def dist (q : Fin 50000) (j : Fin 12544) : EReal :=
  sq3 (A.padP j) + sq3 (A.ep q)
    - Ideal.ofBits .f32 0x40000000#32 * ∑ x : Fin 8, (if h : x.val < 3 then A.padP j ⟨x.val, h⟩ else 0)
        * (if h : x.val < 3 then A.ep q ⟨x.val, h⟩ else 0)

/-- The kernel's keys and values: every padded row projected. -/
def key (j : Fin 12544) : Fin 128 → EReal := proj (A.padF j) A.wk A.bk
/-- The value row of a padded decoder row. -/
def val (j : Fin 12544) : Fin 128 → EReal := proj (A.padF j) A.wv A.bv

/-- The kernel's query, already scaled. -/
def query (q : Fin 50000) (k : Fin 128) : EReal :=
  (∑ y, A.wq y k * A.ef q y + A.bq k) * (((Real.sqrt 128)⁻¹ : ℝ) : EReal)

/-- A result row from what a query's attention gives. -/
def outOf (agg : Fin 128 → EReal) (q : Fin 50000) : Fin 128 → EReal :=
  lnRow (upRow agg (A.ef q) (fun y => A.w1 (Fin.castAdd 128 y)) (fun y => A.w1 (Fin.natAdd 128 y)) A.b1 A.w2 A.b2) A.ga A.be

end Args

end Cert.Proof

end
-- ==== Proof.KPay.lean ====
/- What the main call's body stores for one query and one feature. -/
module

public import proofs.«01_k».proof.Proof.Gen.KernelIdeal.Frame
public import proofs.«01_k».proof.Proof.Spec
public import Idealize.ShloMosaic.Lib.Pipeline.Value

@[expose] public section

noncomputable section

namespace Cert.Proof

open Idealize.ShloMosaic Cert.KernelIdeal Cert.KernelIdeal.Gen

/-- The body's distances at a row and a query. -/
theorem pay1_apply (v0 v2 v4 : Vec Ideal S1x128 .f32) (v11 : Vec Ideal S12544x8 .bf16) (v13 : Vec Ideal S8x128 .bf16)
    (v16 : Vec Ideal S12544x128 .f32) (j : Fin 12544) (q : Fin 128) :
    k1_pay1 (F := Ideal) v0 v2 v4 v11 v13 v16 (ix2 j q)
      = v16 (ix2 j q) + (v0 (ix2 0 q) * v0 (ix2 0 q) + v2 (ix2 0 q) * v2 (ix2 0 q) + v4 (ix2 0 q) * v4 (ix2 0 q))
        - Ideal.ofBits .f32 0x40000000#32 * ∑ x, v11 (ix2 j x) * v13 (ix2 x q) := by
  pointwise [k1_pay1]

/-- The smallest entry of every column. -/
def colLow (x : FVec Ideal S392x128 .f32) : FVec Ideal S128 .f32 :=
  multiReduction .minimumf [0] S128 x 0x7F800000#32 reduces_S392x128_S128 (.inl rfl) rfl

/-- The entries that equal their column's given value replaced by infinity. -/
def colStrike (x : FVec Ideal S392x128 .f32) (m : FVec Ideal S128 .f32) : FVec Ideal S392x128 .f32 :=
  select (cmpf .oeq x (broadcastTo S392x128 (shapeCast S1x128 m shapeCasts_S128_S1x128) broadcasts_S1x128_S392x128))
    (broadcast S392x128 (Scalar.ofBits .f32 0x7F800000#32)) x

theorem colLow_apply (x : FVec Ideal S392x128 .f32) (q : Fin 128) : colLow x (ix1 q) = low fun c => x (ix2 c q) := by
  pointwise [colLow, lit_inf]
  rfl

theorem colStrike_apply (x : FVec Ideal S392x128 .f32) (c : Fin 392) (q : Fin 128) :
    colStrike x (colLow x) (ix2 c q) = strike (fun c => x (ix2 c q)) c := by
  pointwise [colStrike, lit_inf]
  rw [colLow_apply]
  rfl

theorem colStrike_col (x : FVec Ideal S392x128 .f32) (q : Fin 128) (y : Fin 392 → EReal) (h : (fun c => x (ix2 c q)) = y) :
    (fun c => colStrike x (colLow x) (ix2 c q)) = strike y := by
  funext c
  rw [colStrike_apply, h]

/-- The candidates: the two smallest distances of every chunk. -/
def candV (d : FVec Ideal S12544x128 .f32) : FVec Ideal S392x128 .f32 :=
  have v23 : FVec Ideal S196x64x128 .f32 := shapeCast S196x64x128 d shapeCasts_S12544x128_S196x64x128
  have v24 : FVec Ideal S196x128 .f32 := multiReduction .minimumf [1] S196x128 v23 0x7F800000#32 reduces_S196x64x128_S196x128 (.inl rfl) rfl
  have v26 : FVec Ideal S196x64x128 .f32 := broadcastTo S196x64x128 (shapeCast S196x1x128 v24 shapeCasts_S196x128_S196x1x128) broadcasts_S196x1x128_S196x64x128
  have v29 : FVec Ideal S196x64x128 .f32 := select (cmpf .oeq v23 v26) (broadcast S196x64x128 (Scalar.ofBits .f32 0x7F800000#32)) v23
  concatenate S392x128 0 [⟨S196x128, v24⟩, ⟨S196x128, multiReduction .minimumf [1] S196x128 v29 0x7F800000#32 reduces_S196x64x128_S196x128 (.inl rfl) rfl⟩] concatenates_S196x128_S196x128_S392x128_d0

theorem candV_apply (d : FVec Ideal S12544x128 .f32) (c : Fin 392) (q : Fin 128) :
    candV d (ix2 c q) = cands (fun j => d (ix2 j q)) c := by
  pointwise [candV, lit_inf]
  rfl

theorem pay2_eq (v0 v2 v4 : Vec Ideal S1x128 .f32) (v11 : Vec Ideal S12544x8 .bf16) (v13 : Vec Ideal S8x128 .bf16)
    (v16 : Vec Ideal S12544x128 .f32) :
    k1_pay2 (F := Ideal) v0 v2 v4 v11 v13 v16
      = colStrike (candV (k1_pay1 (F := Ideal) v0 v2 v4 v11 v13 v16)) (colLow (candV (k1_pay1 (F := Ideal) v0 v2 v4 v11 v13 v16))) := rfl

theorem pay4_eq (x : FVec Ideal S392x128 .f32) :
    k1_pay4 (F := Ideal) x (colLow x)
      = (have x1 := colStrike x (colLow x)
         have x2 := colStrike x1 (colLow x1)
         have x3 := colStrike x2 (colLow x2)
         have x4 := colStrike x3 (colLow x3)
         have x5 := colStrike x4 (colLow x4)
         have x6 := colStrike x5 (colLow x5)
         shapeCast S1x128 (colLow x6) shapeCasts_S128_S1x128) := rfl

/-- The body's threshold at a query. -/
theorem thr_apply (v0 v2 v4 : Vec Ideal S1x128 .f32) (v11 : Vec Ideal S12544x8 .bf16) (v13 : Vec Ideal S8x128 .bf16)
    (v16 : Vec Ideal S12544x128 .f32) (q : Fin 128) :
    k1_pay4 (F := Ideal) (k1_pay2 (F := Ideal) v0 v2 v4 v11 v13 v16) (k1_pay3 (F := Ideal) v0 v2 v4 v11 v13 v16) (ix2 0 q)
      = thr fun j => k1_pay1 (F := Ideal) v0 v2 v4 v11 v13 v16 (ix2 j q) := by
  show k1_pay4 (F := Ideal) _ (colLow _) _ = _
  rw [pay4_eq, pay2_eq]
  generalize k1_pay1 (F := Ideal) v0 v2 v4 v11 v13 v16 = d
  have e0 : (fun c => candV d (ix2 c q)) = cands fun j => d (ix2 j q) := funext fun c => candV_apply d c q
  have e1 := colStrike_col _ q _ e0
  have e2 := colStrike_col _ q _ e1
  have e3 := colStrike_col _ q _ e2
  have e4 := colStrike_col _ q _ e3
  have e5 := colStrike_col _ q _ e4
  have e6 := colStrike_col _ q _ e5
  have e7 := colStrike_col _ q _ e6
  dsimp only
  rw [show ∀ m : FVec Ideal S128 .f32, shapeCast S1x128 m shapeCasts_S128_S1x128 (ix2 0 q) = m (ix1 q) from fun m => by pointwise,
    colLow_apply, e7]
  rfl

theorem scale_eq : Named.named (F := Ideal) κ "scale" (φ := .f32) 0x3DB504F3#32 = (((Real.sqrt 128)⁻¹ : ℝ) : EReal) :=
  IdealRules.named_const.ideal_named_scalar κ "scale" (φ := .f32) 0x3DB504F3#32 (((Real.sqrt 128)⁻¹ : ℝ) : EReal) rfl

theorem off_zero {n : Nat} : ∀ {m : Fin n → Nat}, (∀ a, m a = 0) → m = fun _ => 0 := fun h => funext h

/-- The value the main call's body stores, from its input blocks. -/
theorem out1_apply (x0 : Vec Ideal S3x128 .f32) (x1 : Vec Ideal S8x128 .bf16) (x2 : Vec Ideal S128x128 .f32)
    (x3 : Vec Ideal S12544x8 .bf16) (x4 x5 x6 : Vec Ideal S12544x128 .f32) (x7 : Vec Ideal S128x128 .f32)
    (x8 : Vec Ideal S128x1 .f32) (x9 x10 : Vec Ideal S128x128 .f32) (x11 : Vec Ideal S1x128 .f32)
    (x12 : Vec Ideal S128x128 .f32) (x13 x14 x15 : Vec Ideal S1x128 .f32) (r f : Fin 128) :
    out1_16 (F := Ideal) x0 x1 x2 x3 x4 x5 x6 x7 x8 x9 x10 x11 x12 x13 x14 x15 (ix2 r f)
      = lnRow (upRow (aggK
            (fun j => x4 (ix2 j r) + sq3 (fun a => x0 (ix2 a r)) - Ideal.ofBits .f32 0x40000000#32 * ∑ x, x3 (ix2 j x) * x1 (ix2 x r))
            (fun j f => x5 (ix2 j f)) (fun j f => x6 (ix2 j f))
            (fun k => (∑ y, x7 (ix2 y k) * x2 (ix2 r y) + x8 (ix2 k 0)) * (((Real.sqrt 128)⁻¹ : ℝ) : EReal)))
          (fun y => x2 (ix2 r y)) (fun y x => x9 (ix2 y x)) (fun y x => x10 (ix2 y x)) (fun x => x11 (ix2 0 x))
          (fun y x => x12 (ix2 y x)) (fun x => x13 (ix2 0 x)))
        (fun x => x14 (ix2 0 x)) (fun x => x15 (ix2 0 x)) f := by
  unfold out1_16
  rw [View.canon_unit_zero (off_zero (by decide))]
  simp only [View.ld_unit_zero (S := S12544x8) (off_zero (by decide : ∀ a, (![0, 0] : Fin 2 → Nat) a = 0)),
    View.ld_unit_zero (S := S8x128) (off_zero (by decide : ∀ a, (![0, 0] : Fin 2 → Nat) a = 0)),
    View.ld_unit_zero (S := S12544x128) (off_zero (by decide : ∀ a, (![0, 0] : Fin 2 → Nat) a = 0)),
    View.ld_unit_zero (S := S128x128) (off_zero (by decide : ∀ a, (![0, 0] : Fin 2 → Nat) a = 0)),
    View.ld_unit_zero (S := S128x1) (off_zero (by decide : ∀ a, (![0, 0] : Fin 2 → Nat) a = 0)),
    View.ld_unit_zero (S := S1x128) (off_zero (by decide : ∀ a, (![0, 0] : Fin 2 → Nat) a = 0))]
  have hd : (fun j => k1_pay1 (F := Ideal) (View.ld x0 r1_0) (View.ld x0 r1_1) (View.ld x0 r1_2) x3 x1 x4 (ix2 j r))
      = fun j => x4 (ix2 j r) + sq3 (fun a => x0 (ix2 a r)) - Ideal.ofBits .f32 0x40000000#32 * ∑ x, x3 (ix2 j x) * x1 (ix2 x r) := by
    funext j
    rw [pay1_apply]
    pointwise [sq3]
  have ht := thr_apply (View.ld x0 r1_0) (View.ld x0 r1_1) (View.ld x0 r1_2) x3 x1 x4 r
  rw [hd] at ht
  generalize k1_pay4 (F := Ideal) _ _ = T at ht ⊢
  have hd' := fun j => congrFun hd j
  generalize k1_pay1 (F := Ideal) _ _ _ _ _ _ = d at hd' ⊢
  pointwise [k1_pay5, k1_pay6, k1_pay7, k1_pay8]
  simp only [hd', ht, scale_eq]
  rfl

end Cert.Proof
-- ==== Proof.KProj.lean ====
/- The arrays the projection call leaves. -/
module

public import proofs.«01_k».proof.Proof.KPay
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen Idealize.SL.Sem

variable (V : (c : Dev nD) → (b : Ref sig .tc) → Buf (Elt Ideal) ((c : Thread nD τ).loc b))

/-- Which block of its array each window of the projection call is at. -/
theorem at0 : ∀ t : Fin cfg0.N, win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![(grid0.coords t 0).val, 0] ∧ win0_7.index t = ![(grid0.coords t 0).val, 0]
    ∧ win0_8.index t = ![(grid0.coords t 0).val, 0] := by decide +kernel

/-- The keys: every padded decoder row projected. -/
theorem keys_arr (c : Dev nD) : (dat0 V c).arrAt 6 cfg0.N = fun i : S12544x128.Idx =>
    proj (fun k => (V c main_v1 : S12544x128.Idx → EReal) (ix2 (i 0) k)) (fun k f => (V c main_arg7 : S128x128.Idx → EReal) (ix2 k f))
      (fun f => (V c main_v10 : S1x128.Idx → EReal) (ix2 0 f)) (i 1) := by
  refine (dat0 V c).arrAt_eq_of_covers 6 _ (by decide +kernel) fun t hf y => ?_
  blk_simp
  rw [after0_6]
  frame_out
  pointwise [k0_pay2, k0_pay1]
  blk_simp [iblk0]
  refine congrArg₂ (· + ·) (Finset.sum_congr rfl fun x _ => congrArg₂ (· * ·) (congrArg _ ?_) (congrArg _ ?_)) (congrArg _ ?_)
    <;> blk_ext [at0 t]

/-- The values: every padded decoder row projected. -/
theorem vals_arr (c : Dev nD) : (dat0 V c).arrAt 7 cfg0.N = fun i : S12544x128.Idx =>
    proj (fun k => (V c main_v1 : S12544x128.Idx → EReal) (ix2 (i 0) k)) (fun k f => (V c main_arg9 : S128x128.Idx → EReal) (ix2 k f))
      (fun f => (V c main_v11 : S1x128.Idx → EReal) (ix2 0 f)) (i 1) := by
  refine (dat0 V c).arrAt_eq_of_covers 7 _ (by decide +kernel) fun t hf y => ?_
  blk_simp
  rw [after0_7]
  frame_out
  pointwise [k0_pay3, k0_pay1]
  blk_simp [iblk0]
  refine congrArg₂ (· + ·) (Finset.sum_congr rfl fun x _ => congrArg₂ (· * ·) (congrArg _ ?_) (congrArg _ ?_)) (congrArg _ ?_)
    <;> blk_ext [at0 t]

/-- The squared length of every padded decoder position, on every lane. -/
theorem sq_arr (c : Dev nD) : (dat0 V c).arrAt 8 cfg0.N = fun i : S12544x128.Idx =>
    sq3 (fun a => (V c main_v0 : S12544x3.Idx → EReal) (ix2 (i 0) a)) := by
  refine (dat0 V c).arrAt_eq_of_covers 8 _ (by decide +kernel) fun t hf y => ?_
  blk_simp
  rw [after0_8]
  frame_out
  pointwise [k0_pay4]
  blk_simp [iblk0]
  have e : ∀ a, (win0_1.blk t).view.emb (ix2 (y 0) a) = (ix2 ((win0_8.blk t).view.emb y 0) a : S12544x3.Idx) := by
    intro a
    blk_ext [at0 t]
  rw [e, e, e]
  rfl

theorem at1 : ∀ t : Fin cfg1.N, win1_0.index t = ![0, (grid1.coords t 0).val] ∧ win1_1.index t = ![0, (grid1.coords t 0).val]
    ∧ win1_2.index t = ![(grid1.coords t 0).val, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![0, 0] ∧ win1_12.index t = ![0, 0] ∧ win1_13.index t = ![0, 0]
    ∧ win1_14.index t = ![0, 0] ∧ win1_15.index t = ![0, 0] ∧ win1_16.index t = ![(grid1.coords t 0).val, 0] := by decide +kernel

end Cert.Proof
-- ==== Proof.KMain.lean ====
/- The array the main call leaves. -/
module

public import proofs.«01_k».proof.Proof.KProj

@[expose] public section

set_option maxRecDepth 16384

noncomputable section

namespace Cert.Proof

open Idealize.ShloMosaic Idealize.ShloMosaic.TcCoe Cert.KernelIdeal Cert.KernelIdeal.Gen Idealize.SL.Sem

/-- The row of the output that query `q` (padded queries counted) ends at, from the arrays the main call is entered with:
    `p` and `pb` the query positions by columns, `ef` the encoder features, `kb` the decoder positions, `d` their squared
    lengths, `ka` and `va` keys and values, `wq … be` the weights. -/
def mainRow (p : S3x50048.Idx → EReal) (pb : S8x50048.Idx → EReal) (ef : S50048x128.Idx → EReal) (kb : S12544x8.Idx → EReal)
    (d ka va : S12544x128.Idx → EReal) (wq : S128x128.Idx → EReal) (bq : S128x1.Idx → EReal) (wa wb : S128x128.Idx → EReal)
    (b1 : S1x128.Idx → EReal) (w2 : S128x128.Idx → EReal) (b2 ga be : S1x128.Idx → EReal) (q : Fin 50048) (f : Fin 128) : EReal :=
  lnRow (upRow (aggK
        (fun j => d (ix2 j ⟨q.val % 128, Nat.mod_lt _ (by norm_num)⟩) + sq3 (fun a => p (ix2 a q))
          - Ideal.ofBits .f32 0x40000000#32 * ∑ x, kb (ix2 j x) * pb (ix2 x q))
        (fun j f => ka (ix2 j f)) (fun j f => va (ix2 j f))
        (fun k => (∑ y, wq (ix2 y k) * ef (ix2 q y) + bq (ix2 k 0)) * (((Real.sqrt 128)⁻¹ : ℝ) : EReal)))
      (fun y => ef (ix2 q y)) (fun y x => wa (ix2 y x)) (fun y x => wb (ix2 y x)) (fun x => b1 (ix2 0 x))
      (fun y x => w2 (ix2 y x)) (fun x => b2 (ix2 0 x)))
    (fun x => ga (ix2 0 x)) (fun x => be (ix2 0 x)) f

variable (V : (c : Dev nD) → (b : Ref sig .tc) → Buf (Elt Ideal) ((c : Thread nD τ).loc b))

theorem blk1_0 (c : Dev nD) (t : Fin cfg1.N) (a : Fin 3) (r : Fin 128) (q : Fin 50048)
    (hq : q.val = (grid1.coords t 0).val * 128 + r.val) :
    (iblk1 V c 0 t : Shape.Idx ⟨2, ![3, 128]⟩ → EReal) (ix2 a r) = (V c main_v6 : S3x50048.Idx → EReal) (ix2 a q) := by
  blk_simp [iblk1]
  refine congrArg _ ?_
  blk_ext [at1 t]

theorem blk1_1 (c : Dev nD) (t : Fin cfg1.N) (a : Fin 8) (r : Fin 128) (q : Fin 50048)
    (hq : q.val = (grid1.coords t 0).val * 128 + r.val) :
    (iblk1 V c 1 t : Shape.Idx ⟨2, ![8, 128]⟩ → EReal) (ix2 a r) = (V c main_v8 : S8x50048.Idx → EReal) (ix2 a q) := by
  blk_simp [iblk1]
  refine congrArg _ ?_
  blk_ext [at1 t]

theorem blk1_2 (c : Dev nD) (t : Fin cfg1.N) (r : Fin 128) (a : Fin 128) (q : Fin 50048)
    (hq : q.val = (grid1.coords t 0).val * 128 + r.val) :
    (iblk1 V c 2 t : S128x128.Idx → EReal) (ix2 r a) = (V c main_v5 : S50048x128.Idx → EReal) (ix2 q a) := by
  blk_simp [iblk1]
  refine congrArg _ ?_
  blk_ext [at1 t]

theorem blk1_3 (c : Dev nD) (t : Fin cfg1.N) (a : Fin 12544) (b : Fin 8) :
    (iblk1 V c 3 t : S12544x8.Idx → EReal) (ix2 a b) = (V c main_v3 : S12544x8.Idx → EReal) (ix2 a b) := by
  blk_simp [iblk1]
  refine congrArg _ ?_
  blk_ext [at1 t]

theorem blk1_4 (c : Dev nD) (t : Fin cfg1.N) (a : Fin 12544) (b : Fin 128) :
    (iblk1 V c 4 t : S12544x128.Idx → EReal) (ix2 a b) = (V c main_v18_2 : S12544x128.Idx → EReal) (ix2 a b) := by
  blk_simp [iblk1]
  refine congrArg _ ?_
  blk_ext [at1 t]

theorem blk1_5 (c : Dev nD) (t : Fin cfg1.N) (a : Fin 12544) (b : Fin 128) :
    (iblk1 V c 5 t : S12544x128.Idx → EReal) (ix2 a b) = (V c main_v18_0 : S12544x128.Idx → EReal) (ix2 a b) := by
  blk_simp [iblk1]
  refine congrArg _ ?_
  blk_ext [at1 t]

theorem blk1_6 (c : Dev nD) (t : Fin cfg1.N) (a : Fin 12544) (b : Fin 128) :
    (iblk1 V c 6 t : S12544x128.Idx → EReal) (ix2 a b) = (V c main_v18_1 : S12544x128.Idx → EReal) (ix2 a b) := by
  blk_simp [iblk1]
  refine congrArg _ ?_
  blk_ext [at1 t]

theorem blk1_7 (c : Dev nD) (t : Fin cfg1.N) (a : Fin 128) (b : Fin 128) :
    (iblk1 V c 7 t : S128x128.Idx → EReal) (ix2 a b) = (V c main_arg5 : S128x128.Idx → EReal) (ix2 a b) := by
  blk_simp [iblk1]
  refine congrArg _ ?_
  blk_ext [at1 t]

theorem blk1_8 (c : Dev nD) (t : Fin cfg1.N) (a : Fin 128) (b : Fin 1) :
    (iblk1 V c 8 t : S128x1.Idx → EReal) (ix2 a b) = (V c main_v9 : S128x1.Idx → EReal) (ix2 a b) := by
  blk_simp [iblk1]
  refine congrArg _ ?_
  blk_ext [at1 t]

theorem blk1_9 (c : Dev nD) (t : Fin cfg1.N) (a : Fin 128) (b : Fin 128) :
    (iblk1 V c 9 t : S128x128.Idx → EReal) (ix2 a b) = (V c main_v16 : S128x128.Idx → EReal) (ix2 a b) := by
  blk_simp [iblk1]
  refine congrArg _ ?_
  blk_ext [at1 t]

theorem blk1_10 (c : Dev nD) (t : Fin cfg1.N) (a : Fin 128) (b : Fin 128) :
    (iblk1 V c 10 t : S128x128.Idx → EReal) (ix2 a b) = (V c main_v17 : S128x128.Idx → EReal) (ix2 a b) := by
  blk_simp [iblk1]
  refine congrArg _ ?_
  blk_ext [at1 t]

theorem blk1_11 (c : Dev nD) (t : Fin cfg1.N) (a : Fin 1) (b : Fin 128) :
    (iblk1 V c 11 t : S1x128.Idx → EReal) (ix2 a b) = (V c main_v12 : S1x128.Idx → EReal) (ix2 a b) := by
  blk_simp [iblk1]
  refine congrArg _ ?_
  blk_ext [at1 t]

theorem blk1_12 (c : Dev nD) (t : Fin cfg1.N) (a : Fin 128) (b : Fin 128) :
    (iblk1 V c 12 t : S128x128.Idx → EReal) (ix2 a b) = (V c main_arg13 : S128x128.Idx → EReal) (ix2 a b) := by
  blk_simp [iblk1]
  refine congrArg _ ?_
  blk_ext [at1 t]

theorem blk1_13 (c : Dev nD) (t : Fin cfg1.N) (a : Fin 1) (b : Fin 128) :
    (iblk1 V c 13 t : S1x128.Idx → EReal) (ix2 a b) = (V c main_v13 : S1x128.Idx → EReal) (ix2 a b) := by
  blk_simp [iblk1]
  refine congrArg _ ?_
  blk_ext [at1 t]

theorem blk1_14 (c : Dev nD) (t : Fin cfg1.N) (a : Fin 1) (b : Fin 128) :
    (iblk1 V c 14 t : S1x128.Idx → EReal) (ix2 a b) = (V c main_v14 : S1x128.Idx → EReal) (ix2 a b) := by
  blk_simp [iblk1]
  refine congrArg _ ?_
  blk_ext [at1 t]

theorem blk1_15 (c : Dev nD) (t : Fin cfg1.N) (a : Fin 1) (b : Fin 128) :
    (iblk1 V c 15 t : S1x128.Idx → EReal) (ix2 a b) = (V c main_v15 : S1x128.Idx → EReal) (ix2 a b) := by
  blk_simp [iblk1]
  refine congrArg _ ?_
  blk_ext [at1 t]

/-- The main region's array, by rows. -/
theorem main_arr (c : Dev nD) : (dat1 V c).arrAt 16 cfg1.N = fun i : S50048x128.Idx =>
    mainRow (V c main_v6) (V c main_v8) (V c main_v5) (V c main_v3) (V c main_v18_2) (V c main_v18_0) (V c main_v18_1) (V c main_arg5) (V c main_v9) (V c main_v16) (V c main_v17) (V c main_v12) (V c main_arg13) (V c main_v13) (V c main_v14) (V c main_v15) (i 0) (i 1) := by
  refine (dat1 V c).arrAt_eq_of_covers 16 _ (by decide +kernel) fun t hf y => ?_
  blk_simp
  rw [after1_16]
  obtain ⟨r, f, rfl⟩ : ∃ r f : Fin 128, y = (ix2 r f : S128x128.Idx) := ⟨y 0, y 1, eq_ix2 _⟩
  refine (out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) r f).trans ?_
  have e1 : ((win1_16.blk t).view.emb (ix2 r f : S128x128.Idx) : S50048x128.Idx) 1 = f := by
    refine Fin.ext ?_
    blk_simp [at1 t]
  have e0 : (((win1_16.blk t).view.emb (ix2 r f : S128x128.Idx) : S50048x128.Idx) 0).val
      = (grid1.coords t 0).val * 128 + r.val := by
    blk_simp [at1 t]
  refine Eq.trans ?_ (congrArg (mainRow (V c main_v6) (V c main_v8) (V c main_v5) (V c main_v3) (V c main_v18_2) (V c main_v18_0) (V c main_v18_1) (V c main_arg5) (V c main_v9) (V c main_v16) (V c main_v17) (V c main_v12) (V c main_arg13) (V c main_v13) (V c main_v14) (V c main_v15) _) e1.symm)
  generalize ((win1_16.blk t).view.emb (ix2 r f : S128x128.Idx) : S50048x128.Idx) 0 = q at e0
  unfold mainRow
  simp only [blk1_0 V c t _ _ _ e0, blk1_1 V c t _ _ _ e0, blk1_2 V c t _ _ _ e0, blk1_3 V c t, blk1_4 V c t, blk1_5 V c t,
    blk1_6 V c t, blk1_7 V c t, blk1_8 V c t, blk1_9 V c t, blk1_10 V c t, blk1_11 V c t, blk1_12 V c t, blk1_13 V c t,
    blk1_14 V c t, blk1_15 V c t]
  have er : r = (⟨q.val % 128, Nat.mod_lt _ (by norm_num)⟩ : Fin 128) := by
    refine Fin.ext ?_
    show r.val = q.val % 128
    omega
  rw [← er]

end Cert.Proof
-- ==== Proof.KIn.lean ====
/- What the two calls are entered with, as the arguments. -/
module

public import proofs.«01_k».proof.Proof.KMain
public import proofs.«01_k».proof.Proof.Consts
public import Idealize.ShloMosaic.Lib.StableHlo.ReadAt

@[expose] public section

set_option maxRecDepth 16384

noncomputable section

namespace Cert.Proof

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg)

/-- The kernel's arguments on a core. -/
def argsK (c : Dev nD) : Args where
  df j k := (m (c.tc.loc main_arg0) : S12500x128.Idx → EReal) (ix2 j k)
  dp j k := (m (c.tc.loc main_arg1) : S12500x3.Idx → EReal) (ix2 j k)
  ef j k := (m (c.tc.loc main_arg2) : S50000x128.Idx → EReal) (ix2 j k)
  ep j k := (m (c.tc.loc main_arg3) : S50000x3.Idx → EReal) (ix2 j k)
  wq j k := (m (c.tc.loc main_arg5) : S128x128.Idx → EReal) (ix2 j k)
  bq k := (m (c.tc.loc main_arg6) : S128.Idx → EReal) (ix1 k)
  wk j k := (m (c.tc.loc main_arg7) : S128x128.Idx → EReal) (ix2 j k)
  bk k := (m (c.tc.loc main_arg8) : S128.Idx → EReal) (ix1 k)
  wv j k := (m (c.tc.loc main_arg9) : S128x128.Idx → EReal) (ix2 j k)
  bv k := (m (c.tc.loc main_arg10) : S128.Idx → EReal) (ix1 k)
  w1 j k := (m (c.tc.loc main_arg11) : S256x128.Idx → EReal) (ix2 j k)
  b1 k := (m (c.tc.loc main_arg12) : S128.Idx → EReal) (ix1 k)
  w2 j k := (m (c.tc.loc main_arg13) : S128x128.Idx → EReal) (ix2 j k)
  b2 k := (m (c.tc.loc main_arg14) : S128.Idx → EReal) (ix1 k)
  ga k := (m (c.tc.loc main_arg15) : S128.Idx → EReal) (ix1 k)
  be k := (m (c.tc.loc main_arg16) : S128.Idx → EReal) (ix1 k)

theorem pad_zero : FloatOps.sitofp (F := Ideal) FTy.f32 (0#32 : BitVec 32) = (0 : EReal) := by
  simp [FloatOps.sitofp]

theorem in_v1 (c : Dev nD) (j : Fin 12544) (k : Fin 128) : (W13 m ρ c main_v1 : S12544x128.Idx → EReal) (ix2 j k) =
    (argsK m c).padF j k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rw [pad_zero]
  rfl

theorem in_v0 (c : Dev nD) (j : Fin 12544) (k : Fin 3) : (W13 m ρ c main_v0 : S12544x3.Idx → EReal) (ix2 j k) =
    (argsK m c).padP j k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v3 (c : Dev nD) (j : Fin 12544) (k : Fin 8) : (W13 m ρ c main_v3 : S12544x8.Idx → EReal) (ix2 j k) =
    if h : k.val < 3 then (argsK m c).padP j ⟨k.val, h⟩ else 0 := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rw [pad_zero]
  by_cases h3 : k.val < 3
  · rw [dif_pos h3, dif_pos h3]
    by_cases hj : j.val < 12500
    · rw [dif_pos ⟨hj, h3⟩]
      unfold Args.padP
      rw [dif_pos hj]
      rfl
    · rw [dif_neg (fun h => hj h.1)]
      unfold Args.padP
      rw [dif_neg hj]
      rfl
  · rw [dif_neg h3, dif_neg h3]

theorem in_v5 (c : Dev nD) (j : Fin 50048) (k : Fin 128) : (W13 m ρ c main_v5 : S50048x128.Idx → EReal) (ix2 j k) =
    if h : j.val < 50000 then (argsK m c).ef ⟨j.val, h⟩ k else 0 := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rw [pad_zero]
  rfl

theorem in_v6 (c : Dev nD) (j : Fin 3) (k : Fin 50048) : (W13 m ρ c main_v6 : S3x50048.Idx → EReal) (ix2 j k) =
    if h : k.val < 50000 then (argsK m c).ep ⟨k.val, h⟩ j else 0 := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rw [pad_zero]
  rfl

theorem in_v8 (c : Dev nD) (j : Fin 8) (k : Fin 50048) : (W13 m ρ c main_v8 : S8x50048.Idx → EReal) (ix2 j k) =
    if h : j.val < 3 then (if h : k.val < 50000 then (argsK m c).ep ⟨k.val, h⟩ ⟨j.val, ‹_›⟩ else 0) else 0 := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rw [pad_zero]
  by_cases h3 : j.val < 3
  · rw [dif_pos h3, dif_pos h3]
    by_cases hk : k.val < 50000
    · rw [dif_pos ⟨hk, h3⟩, dif_pos hk]
      rfl
    · rw [dif_neg (fun h => hk h.1), dif_neg hk]
  · rw [dif_neg h3, dif_neg h3]

theorem in_v9 (c : Dev nD) (j : Fin 128) (k : Fin 1) : (W13 m ρ c main_v9 : S128x1.Idx → EReal) (ix2 j k) =
    (argsK m c).bq j := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v10 (c : Dev nD) (j : Fin 1) (k : Fin 128) : (W13 m ρ c main_v10 : S1x128.Idx → EReal) (ix2 j k) =
    (argsK m c).bk k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v11 (c : Dev nD) (j : Fin 1) (k : Fin 128) : (W13 m ρ c main_v11 : S1x128.Idx → EReal) (ix2 j k) =
    (argsK m c).bv k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v12 (c : Dev nD) (j : Fin 1) (k : Fin 128) : (W13 m ρ c main_v12 : S1x128.Idx → EReal) (ix2 j k) =
    (argsK m c).b1 k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v13 (c : Dev nD) (j : Fin 1) (k : Fin 128) : (W13 m ρ c main_v13 : S1x128.Idx → EReal) (ix2 j k) =
    (argsK m c).b2 k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v14 (c : Dev nD) (j : Fin 1) (k : Fin 128) : (W13 m ρ c main_v14 : S1x128.Idx → EReal) (ix2 j k) =
    (argsK m c).ga k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v15 (c : Dev nD) (j : Fin 1) (k : Fin 128) : (W13 m ρ c main_v15 : S1x128.Idx → EReal) (ix2 j k) =
    (argsK m c).be k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v16 (c : Dev nD) (j : Fin 128) (k : Fin 128) : (W13 m ρ c main_v16 : S128x128.Idx → EReal) (ix2 j k) =
    (argsK m c).w1 (Fin.castAdd 128 j) k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

theorem in_v17 (c : Dev nD) (j : Fin 128) (k : Fin 128) : (W13 m ρ c main_v17 : S128x128.Idx → EReal) (ix2 j k) =
    (argsK m c).w1 (Fin.natAdd 128 j) k := by
  unfold W13 W12 W11 W10 W9 W8 W7 W6 W5 W4 W3 W2 W1 hostOps0 hostOps0_1 hostOps0_2 hostOps0_3 hostOps0_4 hostOps0_5 hostOps0_6 hostOps0_7 hostOps0_8 hostOps0_9 hostOps0_10 hostOps0_11 hostOps0_12
  after_reads_at
  rfl

variable (c : Dev nD)

theorem keys_of (V : (c : Dev nD) → (b : Ref sig .tc) → Buf (Elt Ideal) ((c : Thread nD τ).loc b)) (A : Args)
    (h1 : ∀ j k, (V c main_v1 : S12544x128.Idx → EReal) (ix2 j k) = A.padF j k)
    (h2 : ∀ j k, (V c main_arg7 : S128x128.Idx → EReal) (ix2 j k) = A.wk j k)
    (h3 : ∀ j k, (V c main_v10 : S1x128.Idx → EReal) (ix2 j k) = A.bk k) (j : Fin 12544) (f : Fin 128) :
    ((dat0 V c).arrAt 6 cfg0.N : S12544x128.Idx → EReal) (ix2 j f) = A.key j f := by
  rw [keys_arr]
  show proj (fun k => (V c main_v1 : S12544x128.Idx → EReal) (ix2 j k))
    (fun k f => (V c main_arg7 : S128x128.Idx → EReal) (ix2 k f))
    (fun f => (V c main_v10 : S1x128.Idx → EReal) (ix2 0 f)) f = _
  rw [funext (h1 j), funext fun k => funext (h2 k), funext (h3 0)]
  rfl

/-- The key array the main region reads. -/
theorem keys_in (j : Fin 12544) (f : Fin 128) :
    (W14 m ρ c main_v18_0 : S12544x128.Idx → EReal) (ix2 j f) = (argsK m c).key j f :=
  (congrFun (W14_arr m ρ c 6) (ix2 j f)).trans (
    keys_of c (V13 m ρ) (argsK m c) (in_v1 m ρ c) (fun j k => congrFun (W13_args m ρ c main_arg7 (by decide)) (ix2 j k))
      (in_v10 m ρ c) j f)

theorem vals_of (V : (c : Dev nD) → (b : Ref sig .tc) → Buf (Elt Ideal) ((c : Thread nD τ).loc b)) (A : Args)
    (h1 : ∀ j k, (V c main_v1 : S12544x128.Idx → EReal) (ix2 j k) = A.padF j k)
    (h2 : ∀ j k, (V c main_arg9 : S128x128.Idx → EReal) (ix2 j k) = A.wv j k)
    (h3 : ∀ j k, (V c main_v11 : S1x128.Idx → EReal) (ix2 j k) = A.bv k) (j : Fin 12544) (f : Fin 128) :
    ((dat0 V c).arrAt 7 cfg0.N : S12544x128.Idx → EReal) (ix2 j f) = A.val j f := by
  rw [vals_arr]
  show proj (fun k => (V c main_v1 : S12544x128.Idx → EReal) (ix2 j k))
    (fun k f => (V c main_arg9 : S128x128.Idx → EReal) (ix2 k f))
    (fun f => (V c main_v11 : S1x128.Idx → EReal) (ix2 0 f)) f = _
  rw [funext (h1 j), funext fun k => funext (h2 k), funext (h3 0)]
  rfl

/-- The value array the main region reads. -/
theorem vals_in (j : Fin 12544) (f : Fin 128) :
    (W14 m ρ c main_v18_1 : S12544x128.Idx → EReal) (ix2 j f) = (argsK m c).val j f :=
  (congrFun (W14_arr m ρ c 7) (ix2 j f)).trans (
    vals_of c (V13 m ρ) (argsK m c) (in_v1 m ρ c) (fun j k => congrFun (W13_args m ρ c main_arg9 (by decide)) (ix2 j k))
      (in_v11 m ρ c) j f)

theorem sq_of (V : (c : Dev nD) → (b : Ref sig .tc) → Buf (Elt Ideal) ((c : Thread nD τ).loc b)) (A : Args)
    (h1 : ∀ j k, (V c main_v0 : S12544x3.Idx → EReal) (ix2 j k) = A.padP j k) (j : Fin 12544) (f : Fin 128) :
    ((dat0 V c).arrAt 8 cfg0.N : S12544x128.Idx → EReal) (ix2 j f) = sq3 (A.padP j) := by
  rw [sq_arr]
  show sq3 (fun a => (V c main_v0 : S12544x3.Idx → EReal) (ix2 j a)) = _
  rw [funext (h1 j)]

/-- The squared norms the main region reads. -/
theorem sq_in (j : Fin 12544) (f : Fin 128) :
    (W14 m ρ c main_v18_2 : S12544x128.Idx → EReal) (ix2 j f) = sq3 ((argsK m c).padP j) :=
  (congrFun (W14_arr m ρ c 8) (ix2 j f)).trans (sq_of c (V13 m ρ) (argsK m c) (in_v0 m ρ c) j f)

/-- The kernel's first result at a query's row and a lane. -/
def kOut (A : Args) (q : Fin 50000) : Fin 128 → EReal :=
  A.outOf (aggK (A.dist q) A.key A.val (A.query q)) q

/-- A row of the main region's array from what the region reads. -/
theorem mainRow_of (A : Args)
    (p : S3x50048.Idx → EReal) (hp : ∀ j k, p (ix2 j k) = if h : k.val < 50000 then A.ep ⟨k.val, h⟩ j else 0)
    (pb : S8x50048.Idx → EReal) (hpb : ∀ j k, pb (ix2 j k) = if h : j.val < 3 then (if h' : k.val < 50000 then A.ep ⟨k.val, h'⟩ ⟨j.val, h⟩ else 0) else 0)
    (ef : S50048x128.Idx → EReal) (hef : ∀ j k, ef (ix2 j k) = if h : j.val < 50000 then A.ef ⟨j.val, h⟩ k else 0)
    (kb : S12544x8.Idx → EReal) (hkb : ∀ j k, kb (ix2 j k) = if h : k.val < 3 then A.padP j ⟨k.val, h⟩ else 0)
    (d : S12544x128.Idx → EReal) (hd : ∀ j k, d (ix2 j k) = sq3 (A.padP j))
    (ka : S12544x128.Idx → EReal) (hka : ∀ j k, ka (ix2 j k) = A.key j k)
    (va : S12544x128.Idx → EReal) (hva : ∀ j k, va (ix2 j k) = A.val j k)
    (wq : S128x128.Idx → EReal) (hwq : ∀ j k, wq (ix2 j k) = A.wq j k)
    (bq : S128x1.Idx → EReal) (hbq : ∀ j k, bq (ix2 j k) = A.bq j)
    (wa : S128x128.Idx → EReal) (hwa : ∀ j k, wa (ix2 j k) = A.w1 (Fin.castAdd 128 j) k)
    (wb : S128x128.Idx → EReal) (hwb : ∀ j k, wb (ix2 j k) = A.w1 (Fin.natAdd 128 j) k)
    (b1 : S1x128.Idx → EReal) (hb1 : ∀ j k, b1 (ix2 j k) = A.b1 k)
    (w2 : S128x128.Idx → EReal) (hw2 : ∀ j k, w2 (ix2 j k) = A.w2 j k)
    (b2 : S1x128.Idx → EReal) (hb2 : ∀ j k, b2 (ix2 j k) = A.b2 k)
    (ga : S1x128.Idx → EReal) (hga : ∀ j k, ga (ix2 j k) = A.ga k)
    (be : S1x128.Idx → EReal) (hbe : ∀ j k, be (ix2 j k) = A.be k)
    (q : Fin 50000) (r : Fin 50048) (hr : r.val = q.val) (f : Fin 128) :
    mainRow p pb ef kb d ka va wq bq wa wb b1 w2 b2 ga be r f = kOut A q f := by
  obtain ⟨r, hlt⟩ := r
  obtain rfl : r = q.val := hr
  unfold mainRow
  simp only [hp, hpb, hef, hkb, hd, hka, hva, hwq, hbq, hwa, hwb, hb1, hw2, hb2, hga, hbe, dif_pos q.isLt]
  rfl

/-- The kernel's first result, at a query's row and a lane. -/
theorem main_out (q : Fin 50000) (f : Fin 128) :
    (W16 m ρ c main_v20 : S50000x128.Idx → EReal) (ix2 q f) = kOut (argsK m c) q f := by
  have hq : q.val < 50048 := by have := q.isLt; omega
  have e : (W16 m ρ c main_v20 : S50000x128.Idx → EReal) (ix2 q f)
      = (W15 m ρ c main_v19 : S50048x128.Idx → EReal) (ix2 ⟨q.val, hq⟩ f) := by
    unfold W16 hostOps2
    after_reads_at
  exact e.trans ((congrFun ((W15_arr m ρ c 16).trans (main_arr (V14 m ρ) c)) (ix2 ⟨q.val, hq⟩ f)).trans
    (mainRow_of (argsK m c)
      _ (fun j k => (congrFun (W14_of m ρ c main_v6 (by decide)) (ix2 j k)).trans (in_v6 m ρ c j k))
      _ (fun j k => (congrFun (W14_of m ρ c main_v8 (by decide)) (ix2 j k)).trans (in_v8 m ρ c j k))
      _ (fun j k => (congrFun (W14_of m ρ c main_v5 (by decide)) (ix2 j k)).trans (in_v5 m ρ c j k))
      _ (fun j k => (congrFun (W14_of m ρ c main_v3 (by decide)) (ix2 j k)).trans (in_v3 m ρ c j k))
      _ (sq_in m ρ c)
      _ (keys_in m ρ c)
      _ (vals_in m ρ c)
      _ (fun j k => congrFun ((W14_of m ρ c main_arg5 (by decide)).trans (W13_args m ρ c main_arg5 (by decide))) (ix2 j k))
      _ (fun j k => (congrFun (W14_of m ρ c main_v9 (by decide)) (ix2 j k)).trans (in_v9 m ρ c j k))
      _ (fun j k => (congrFun (W14_of m ρ c main_v16 (by decide)) (ix2 j k)).trans (in_v16 m ρ c j k))
      _ (fun j k => (congrFun (W14_of m ρ c main_v17 (by decide)) (ix2 j k)).trans (in_v17 m ρ c j k))
      _ (fun j k => (congrFun (W14_of m ρ c main_v12 (by decide)) (ix2 j k)).trans (in_v12 m ρ c j k))
      _ (fun j k => congrFun ((W14_of m ρ c main_arg13 (by decide)).trans (W13_args m ρ c main_arg13 (by decide))) (ix2 j k))
      _ (fun j k => (congrFun (W14_of m ρ c main_v13 (by decide)) (ix2 j k)).trans (in_v13 m ρ c j k))
      _ (fun j k => (congrFun (W14_of m ρ c main_v14 (by decide)) (ix2 j k)).trans (in_v14 m ρ c j k))
      _ (fun j k => (congrFun (W14_of m ρ c main_v15 (by decide)) (ix2 j k)).trans (in_v15 m ρ c j k))
      q ⟨q.val, hq⟩ rfl f))

end Cert.Proof
-- ==== Proof.KRun.lean ====
/- The idealized kernel's run, with what its first result is. -/
module

public import proofs.«01_k».proof.Proof.KIn

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- Every run of the idealized kernel ends with every buffer at what the last boundary of @main has there. -/
theorem k_run : θ_run (defs (F := Ideal)) (onTc (τ := τ) (main (F := Ideal))) ⟨m, fun _ => 0, ρ⟩ (fun r => ∀ c : Dev nD,
    ∀ b ∈ Pipeline.ucRefs τ sig, r.2.mem (((c : Thread nD τ)).1, b) = W16 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => h)

/-- The idealized kernel's first result, by its rows. -/
theorem k_value : θ_run (defs (F := Ideal)) (onTc (τ := τ) (main (F := Ideal))) ⟨m, fun _ => 0, ρ⟩ (fun r => ∀ c : Dev nD,
    r.2.mem ((c.tc : Thread nD τ).loc main_v20) = (fun i : S50000x128.Idx => kOut (argsK m c) (i 0) (i 1))
     ∧ r.2.mem ((c.tc : Thread nD τ).loc main_arg0) = m ((c.tc : Thread nD τ).loc main_arg0)
     ∧ r.2.mem ((c.tc : Thread nD τ).loc main_arg1) = m ((c.tc : Thread nD τ).loc main_arg1)
     ∧ r.2.mem ((c.tc : Thread nD τ).loc main_arg2) = m ((c.tc : Thread nD τ).loc main_arg2)
     ∧ r.2.mem ((c.tc : Thread nD τ).loc main_arg3) = m ((c.tc : Thread nD τ).loc main_arg3)
     ∧ r.2.mem ((c.tc : Thread nD τ).loc main_arg4) = m ((c.tc : Thread nD τ).loc main_arg4)
     ∧ r.2.mem ((c.tc : Thread nD τ).loc main_arg5) = m ((c.tc : Thread nD τ).loc main_arg5)
     ∧ r.2.mem ((c.tc : Thread nD τ).loc main_arg6) = m ((c.tc : Thread nD τ).loc main_arg6)
     ∧ r.2.mem ((c.tc : Thread nD τ).loc main_arg7) = m ((c.tc : Thread nD τ).loc main_arg7)
     ∧ r.2.mem ((c.tc : Thread nD τ).loc main_arg8) = m ((c.tc : Thread nD τ).loc main_arg8)
     ∧ r.2.mem ((c.tc : Thread nD τ).loc main_arg9) = m ((c.tc : Thread nD τ).loc main_arg9)
     ∧ r.2.mem ((c.tc : Thread nD τ).loc main_arg10) = m ((c.tc : Thread nD τ).loc main_arg10)
     ∧ r.2.mem ((c.tc : Thread nD τ).loc main_arg11) = m ((c.tc : Thread nD τ).loc main_arg11)
     ∧ r.2.mem ((c.tc : Thread nD τ).loc main_arg12) = m ((c.tc : Thread nD τ).loc main_arg12)
     ∧ r.2.mem ((c.tc : Thread nD τ).loc main_arg13) = m ((c.tc : Thread nD τ).loc main_arg13)
     ∧ r.2.mem ((c.tc : Thread nD τ).loc main_arg14) = m ((c.tc : Thread nD τ).loc main_arg14)
     ∧ r.2.mem ((c.tc : Thread nD τ).loc main_arg15) = m ((c.tc : Thread nD τ).loc main_arg15)
     ∧ r.2.mem ((c.tc : Thread nD τ).loc main_arg16) = m ((c.tc : Thread nD τ).loc main_arg16)) :=
  (θ_run (defs (F := Ideal)) _ _).mono
    (fun r h c =>
      ⟨(h c _ (mem_uc main_v20 (by decide))).trans (funext fun i => by
          rw [eq_ix2 i]
          exact main_out m ρ c (i 0) (i 1)),
        (h c _ (mem_uc main_arg0 (by decide))).trans (W16_main_arg0 m ρ c),
        (h c _ (mem_uc main_arg1 (by decide))).trans (W16_main_arg1 m ρ c),
        (h c _ (mem_uc main_arg2 (by decide))).trans (W16_main_arg2 m ρ c),
        (h c _ (mem_uc main_arg3 (by decide))).trans (W16_main_arg3 m ρ c),
        (h c _ (mem_uc main_arg4 (by decide))).trans (W16_main_arg4 m ρ c),
        (h c _ (mem_uc main_arg5 (by decide))).trans (W16_main_arg5 m ρ c),
        (h c _ (mem_uc main_arg6 (by decide))).trans (W16_main_arg6 m ρ c),
        (h c _ (mem_uc main_arg7 (by decide))).trans (W16_main_arg7 m ρ c),
        (h c _ (mem_uc main_arg8 (by decide))).trans (W16_main_arg8 m ρ c),
        (h c _ (mem_uc main_arg9 (by decide))).trans (W16_main_arg9 m ρ c),
        (h c _ (mem_uc main_arg10 (by decide))).trans (W16_main_arg10 m ρ c),
        (h c _ (mem_uc main_arg11 (by decide))).trans (W16_main_arg11 m ρ c),
        (h c _ (mem_uc main_arg12 (by decide))).trans (W16_main_arg12 m ρ c),
        (h c _ (mem_uc main_arg13 (by decide))).trans (W16_main_arg13 m ρ c),
        (h c _ (mem_uc main_arg14 (by decide))).trans (W16_main_arg14 m ρ c),
        (h c _ (mem_uc main_arg15 (by decide))).trans (W16_main_arg15 m ρ c),
        (h c _ (mem_uc main_arg16 (by decide))).trans (W16_main_arg16 m ρ c)⟩)
    (k_run m ρ)

end Cert.Proof
-- ==== Proof.Order.lean ====
/- The rows in the order of a top-k, and a top-k read at an index. -/
module

public import Idealize.ShloMosaic.Lib.Pointwise
public import Idealize.ShloMosaic.Lib.SortFacts

@[expose] public section

set_option maxRecDepth 16384

noncomputable section

namespace Cert.Proof

open Idealize.ShloMosaic

/-- The places of a row of values in the order that the host's top-k lists them: greater values first. -/
def order (w : Fin 12500 → EReal) : Fin 12500 → Fin 12500 :=
  sortedFrom fun k k' => Ideal.cmp .ogt (w k) (w k') == 1#1

/-- The order's comparison is the strict order. -/
theorem ogt_iff (x y : EReal) : (Ideal.cmp .ogt x y == 1#1) = decide (y < x) := by
  by_cases h : y < x <;> simp [Ideal.cmp, h]

/-- The total order's comparison of ideal values. -/
theorem gt_eq (x y : EReal) : FloatOps.cmpfTotal (F := Ideal) (φ := .f32) CmpDirection.gt x y = Ideal.cmp .ogt x y := rfl

/-- Every place is somewhere in the order. -/
theorem order_surjective (w : Fin 12500 → EReal) : Function.Surjective (order w) := sortedFrom_surjective _

/-- Along the order the values do not grow. -/
theorem order_anti (w : Fin 12500 → EReal) (i j : Fin 12500) (h : i ≤ j) : w (order w j) ≤ w (order w i) := by
  rcases h.eq_or_lt with rfl | hlt
  · exact le_refl _
  · have := sortedFrom_noInversion (fun k k' => Ideal.cmp .ogt (w k) (w k') == 1#1)
      (fun k k' => Ideal.cmp .ogt (w k) (w k') == 1#1)
      (fun a b h => by
        rw [ogt_iff, decide_eq_true_eq] at h
        rw [ogt_iff, decide_eq_false_iff_not]
        exact h.le.not_gt)
      (fun a b h => h)
      (fun a b c h1 h2 => by
        rw [ogt_iff, decide_eq_false_iff_not] at h1 h2 ⊢
        exact not_lt.mpr ((not_lt.mp h1).trans (not_lt.mp h2))) i j hlt
    rw [ogt_iff, decide_eq_false_iff_not] at this
    exact not_lt.mp this

/-- A top-k of rows of 12500 values read at an index: the value and the place that the order has there. -/
theorem topk_at {n : ℕ} (x : (⟨2, ![50000, 12500]⟩ : Shape).Idx → EReal)
    (h : (⟨2, ![50000, 12500]⟩ : Shape).Slices (fun _ => 0) ⟨2, ![50000, n]⟩) (q : Fin 50000) (k : Fin n) (hk : k.val < 12500) :
    (Host.topK ⟨2, ![50000, n]⟩ 1 (FloatOps.cmpfTotal (F := Ideal) (φ := .f32) .gt) x h).1 (ix2 q k)
        = x (ix2 q (order (fun j => x (ix2 q j)) ⟨k.val, hk⟩))
    ∧ (Host.topK ⟨2, ![50000, n]⟩ 1 (FloatOps.cmpfTotal (F := Ideal) (φ := .f32) .gt) x h).2 (ix2 q k)
        = BitVec.ofNat 32 (order (fun j => x (ix2 q j)) ⟨k.val, hk⟩).val := by
  have hal : ∀ z : Fin 12500, Shape.Idx.along (ix2 q ⟨k.val, hk⟩ : (⟨2, ![50000, 12500]⟩ : Shape).Idx) 1 z = ix2 q z := by
    intro z
    funext a
    match a with
    | ⟨0, _⟩ => rfl
    | ⟨1, _⟩ => rfl
  have hix : ∀ y : (⟨2, ![50000, 12500]⟩ : Shape).Idx → EReal,
      extractStridedSlice ⟨2, ![50000, n]⟩ (fun _ => 0) y h (ix2 q k) = y (ix2 q ⟨k.val, hk⟩) := by
    intro y
    unfold extractStridedSlice
    refine congrArg y (funext fun a => Fin.ext ?_)
    match a with
    | ⟨0, _⟩ => exact Nat.zero_add _
    | ⟨1, _⟩ => exact Nat.zero_add _
  have hiz : ∀ y : (⟨2, ![50000, 12500]⟩ : Shape).Idx → BitVec 32,
      extractStridedSlice ⟨2, ![50000, n]⟩ (fun _ => 0) y h (ix2 q k) = y (ix2 q ⟨k.val, hk⟩) := by
    intro y
    unfold extractStridedSlice
    refine congrArg y (funext fun a => Fin.ext ?_)
    match a with
    | ⟨0, _⟩ => exact Nat.zero_add _
    | ⟨1, _⟩ => exact Nat.zero_add _
  have hso : sortedFrom (fun z z' => FloatOps.cmpfTotal (F := Ideal) (φ := .f32) CmpDirection.gt
        (x (Shape.Idx.along (ix2 q ⟨k.val, hk⟩ : (⟨2, ![50000, 12500]⟩ : Shape).Idx) 1 z))
        (x (Shape.Idx.along (ix2 q ⟨k.val, hk⟩ : (⟨2, ![50000, 12500]⟩ : Shape).Idx) 1 z')) == 1#1)
      = order (fun j => x (ix2 q j)) := by
    unfold order
    refine congrArg sortedFrom (funext fun z => funext fun z' => ?_)
    rw [hal z, hal z']
    exact congrArg (· == 1#1) (gt_eq _ _)
  constructor
  · unfold Host.topK Host.sort2
    simp only [show (1 : ℕ) < (⟨2, ![50000, 12500]⟩ : Shape).rank from by decide, dif_pos]
    rw [hix]
    refine congrArg x ((hal _).trans (congrArg (ix2 q) ?_))
    exact congrFun hso ⟨k.val, hk⟩
  · unfold Host.topK Host.sort2
    simp only [show (1 : ℕ) < (⟨2, ![50000, 12500]⟩ : Shape).rank from by decide, dif_pos]
    rw [hiz]
    have hz : ∀ z : Fin 12500, iotaInDim (⟨2, ![50000, 12500]⟩ : Shape) 32 ⟨1, by decide⟩
        (Shape.Idx.along (ix2 q ⟨k.val, hk⟩ : (⟨2, ![50000, 12500]⟩ : Shape).Idx) 1 z) = BitVec.ofNat 32 z.val := by
      intro z
      rw [hal z]
      unfold iotaInDim
      rfl
    refine (hz _).trans (congrArg (fun z : Fin 12500 => BitVec.ofNat 32 z.val) ?_)
    exact congrFun hso ⟨k.val, hk⟩

end Cert.Proof
-- ==== Proof.RefRead.lean ====
/- The reference's result, read at a row and a lane. -/
module

public import proofs.«01_k».proof.Proof.RefRun
public import proofs.«01_k».proof.Proof.Spec
public import proofs.«01_k».proof.Proof.Consts
public import Idealize.ShloMosaic.Lib.StableHlo.Predicate

@[expose] public section

set_option maxRecDepth 16384

noncomputable section

namespace Cert.Proof

open Idealize.ShloMosaic Cert.ReferenceIdeal Cert.ReferenceIdeal.Read

namespace Args

variable (A : Args)

/-- The reference's score of a query's `k`-th neighbour, the neighbours being the rows `s`. -/
def scoreR (s : Fin 8 → Fin 12500) (q : Fin 50000) (k : Fin 8) : EReal :=
  Ideal.div (∑ f, proj (A.ef q) A.wq A.bq f * proj (A.df (s k)) A.wk A.bk f)
    (Ideal.sqrt (Ideal.ofBits .f32 0x43000000#32))

/-- Its exponential, the greatest score taken off first. -/
def expR (s : Fin 8 → Fin 12500) (q : Fin 50000) (k : Fin 8) : EReal :=
  Ideal.exp (A.scoreR s q k - Finset.univ.fold max (Ideal.ofBits .f32 0xFF800000#32) (A.scoreR s q))

/-- The reference's attention of a query over its neighbours. -/
def aggR (s : Fin 8 → Fin 12500) (q : Fin 50000) (f : Fin 128) : EReal :=
  ∑ k, proj (A.df (s k)) A.wv A.bv f * Ideal.div (A.expR s q k) (∑ k, A.expR s q k)

/-- The reference's squared distance. -/
def distR (q : Fin 50000) (j : Fin 12500) : EReal :=
  sq3 (A.ep q) + sq3 (A.dp j) - Ideal.ofBits .f32 0x40000000#32 * ∑ a, A.ep q a * A.dp j a

end Args

variable (x0 : (⟨S12500x128, .f32⟩ : BufTy).Contents (Elt Ideal))
  (x1 : (⟨S12500x3, .f32⟩ : BufTy).Contents (Elt Ideal))
  (x2 : (⟨S50000x128, .f32⟩ : BufTy).Contents (Elt Ideal))
  (x3 : (⟨S50000x3, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S256x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))

/-- The reference's argument arrays. -/
def refArgs : Args where
  df j k := (x0 : S12500x128.Idx → EReal) (ix2 j k)
  dp j k := (x1 : S12500x3.Idx → EReal) (ix2 j k)
  ef j k := (x2 : S50000x128.Idx → EReal) (ix2 j k)
  ep j k := (x3 : S50000x3.Idx → EReal) (ix2 j k)
  wq j k := (x5 : S128x128.Idx → EReal) (ix2 j k)
  bq k := (x6 : S128.Idx → EReal) (ix1 k)
  wk j k := (x7 : S128x128.Idx → EReal) (ix2 j k)
  bk k := (x8 : S128.Idx → EReal) (ix1 k)
  wv j k := (x9 : S128x128.Idx → EReal) (ix2 j k)
  bv k := (x10 : S128.Idx → EReal) (ix1 k)
  w1 j k := (x11 : S256x128.Idx → EReal) (ix2 j k)
  b1 k := (x12 : S128.Idx → EReal) (ix1 k)
  w2 j k := (x13 : S128x128.Idx → EReal) (ix2 j k)
  b2 k := (x14 : S128.Idx → EReal) (ix1 k)
  ga k := (x15 : S128.Idx → EReal) (ix1 k)
  be k := (x16 : S128.Idx → EReal) (ix1 k)
/-- The reference's distances. -/
theorem r13 (q : Fin 50000) (j : Fin 12500) : val_main_v13 (F := Ideal) x1 x3 (ix2 q j) =
    (refArgs x0 x1 x2 x3 x5 x6 x7 x8 x9 x10 x11 x12 x13 x14 x15 x16).distR q j := by
  unfold val_main_v13 val_main_v8 val_main_v6 val_main_v5 val_main_v4 val_main_v3 val_main_cst_0 val_main_v7 val_main_v2 val_main_v1 val_main_v0 val_main_cst val_main_v12 val_main_v11 val_main_cst_1 val_main_v10 val_main_v9
  pointwise []
  rw [Fin.sum_univ_three, Fin.sum_univ_three]
  rfl

/-- The reference's scores. -/
theorem r34 (s : Fin 8 → Fin 12500) (q : Fin 50000)
    (h15 : ∀ k f, val_main_v15 (F := Ideal) x0 x1 x3 (ix3 q k f) = x0 (ix2 (s k) f)) (k : Fin 8) : val_main_v34 (F := Ideal) x0 x1 x2 x3 x5 x6 x7 x8 (ix2 q k) =
    (refArgs x0 x1 x2 x3 x5 x6 x7 x8 x9 x10 x11 x12 x13 x14 x15 x16).scoreR s q k := by
  unfold val_main_v34 val_main_v31 val_main_v30 val_main_v29 val_main_v20 val_main_v19 val_main_v16 val_main_v18 val_main_v17 val_main_v24 val_main_v21 val_main_v23 val_main_v22 val_main_cst_2 val_main_v33 val_main_v32 val_main_cst_3
  pointwise []
  simp only [h15]
  rfl

/-- The reference's exponentials. -/
theorem r39 (s : Fin 8 → Fin 12500) (q : Fin 50000)
    (h15 : ∀ k f, val_main_v15 (F := Ideal) x0 x1 x3 (ix3 q k f) = x0 (ix2 (s k) f)) (k : Fin 8) : val_main_v39 (F := Ideal) x0 x1 x2 x3 x5 x6 x7 x8 (ix2 q k) =
    (refArgs x0 x1 x2 x3 x5 x6 x7 x8 x9 x10 x11 x12 x13 x14 x15 x16).expR s q k := by
  unfold val_main_v39 val_main_v38 val_main_v37 val_main_v36 val_main_v35 val_main_cst_4
  pointwise []
  simp only [r34 x0 x1 x2 x3 x5 x6 x7 x8 x9 x10 x11 x12 x13 x14 x15 x16 s q h15]
  rfl

/-- The reference's weighted sum of the values. -/
theorem r47 (s : Fin 8 → Fin 12500) (q : Fin 50000)
    (h15 : ∀ k f, val_main_v15 (F := Ideal) x0 x1 x3 (ix3 q k f) = x0 (ix2 (s k) f)) (f : Fin 128) : val_main_v47 (F := Ideal) x0 x1 x2 x3 x5 x6 x7 x8 x9 x10 (ix2 q f) =
    (refArgs x0 x1 x2 x3 x5 x6 x7 x8 x9 x10 x11 x12 x13 x14 x15 x16).aggR s q f := by
  unfold val_main_v47 val_main_v46 val_main_v28 val_main_v25 val_main_v27 val_main_v26 val_main_v45 val_main_v44 val_main_v43 val_main_v42 val_main_v41 val_main_v40 val_main_cst_5 val_main_cst_6
  pointwise []
  simp only [h15, r39 x0 x1 x2 x3 x5 x6 x7 x8 x9 x10 x11 x12 x13 x14 x15 x16 s q h15]
  rfl

/-- The reference's perceptron. -/
theorem r57 (s : Fin 8 → Fin 12500) (q : Fin 50000)
    (h15 : ∀ k f, val_main_v15 (F := Ideal) x0 x1 x3 (ix3 q k f) = x0 (ix2 (s k) f)) (f : Fin 128) : val_main_v57 (F := Ideal) x0 x1 x2 x3 x5 x6 x7 x8 x9 x10 x11 x12 x13 x14 (ix2 q f) =
    upRow ((refArgs x0 x1 x2 x3 x5 x6 x7 x8 x9 x10 x11 x12 x13 x14 x15 x16).aggR s q) ((refArgs x0 x1 x2 x3 x5 x6 x7 x8 x9 x10 x11 x12 x13 x14 x15 x16).ef q) (fun y => (refArgs x0 x1 x2 x3 x5 x6 x7 x8 x9 x10 x11 x12 x13 x14 x15 x16).w1 (Fin.castAdd 128 y)) (fun y => (refArgs x0 x1 x2 x3 x5 x6 x7 x8 x9 x10 x11 x12 x13 x14 x15 x16).w1 (Fin.natAdd 128 y)) (refArgs x0 x1 x2 x3 x5 x6 x7 x8 x9 x10 x11 x12 x13 x14 x15 x16).b1 (refArgs x0 x1 x2 x3 x5 x6 x7 x8 x9 x10 x11 x12 x13 x14 x15 x16).w2 (refArgs x0 x1 x2 x3 x5 x6 x7 x8 x9 x10 x11 x12 x13 x14 x15 x16).b2 f := by
  unfold val_main_v57 val_main_v54 val_main_v53 val_main_v52 val_main_v49 val_main_v48 val_main_v51 val_main_v50 val_main_call1_v0 val_main_call1_cst val_main_v56 val_main_v55
  pointwise []
  simp only [r47 x0 x1 x2 x3 x5 x6 x7 x8 x9 x10 x11 x12 x13 x14 x15 x16 s q h15]
  rfl

/-- The count of lanes less nothing is the count of lanes. -/
theorem lanes_eq : Ideal.ofBits FTy.f32 0x43000000#32 - FloatOps.sitofp (F := Ideal) FTy.f32 (0#32 : BitVec 32)
    = Ideal.ofBits FTy.f32 0x43000000#32 := by
  have h : FloatOps.sitofp (F := Ideal) FTy.f32 (0#32 : BitVec 32) = (0 : EReal) := by simp [FloatOps.sitofp]
  rw [h, sub_zero]

theorem lanes_pos : (0 : EReal) < Ideal.ofBits FTy.f32 0x43000000#32 := by
  rw [lit_dim]
  exact_mod_cast (by norm_num : (0 : ℝ) < 128)

/-- The reference's first result. -/
theorem r75 (s : Fin 8 → Fin 12500) (q : Fin 50000)
    (h15 : ∀ k f, val_main_v15 (F := Ideal) x0 x1 x3 (ix3 q k f) = x0 (ix2 (s k) f)) (f : Fin 128) : val_main_v75 (F := Ideal) x0 x1 x2 x3 x5 x6 x7 x8 x9 x10 x11 x12 x13 x14 x15 x16 (ix2 q f) =
    (refArgs x0 x1 x2 x3 x5 x6 x7 x8 x9 x10 x11 x12 x13 x14 x15 x16).outOf ((refArgs x0 x1 x2 x3 x5 x6 x7 x8 x9 x10 x11 x12 x13 x14 x15 x16).aggR s q) q f := by
  unfold val_main_v75 val_main_v72 val_main_v69 val_main_v64 val_main_v63 val_main_v61 val_main_v59 val_main_v58 val_main_cst_7 val_main_v60 val_main_cst_8 val_main_v68 val_main_v67 val_main_v66 val_main_v62 val_main_call2_v13 val_main_call2_cst_3 val_main_call2_v12 val_main_call2_v10 val_main_call2_v9 val_main_call2_v6 val_main_call2_v5 val_main_call2_v4 val_main_call2_v3 val_main_call2_v1 val_main_call2_v0 val_main_call2_cst val_main_call2_v2 val_main_call2_cst_0 val_main_call2_cst_2 val_main_call2_v11 val_main_call2_call0_v1 val_main_call2_call0_v0 val_main_call2_cst_4 val_main_v65 val_main_cst_9 val_main_v71 val_main_v70 val_main_v74 val_main_v73
  pointwise []
  have e8 : val_main_call2_v8 (F := Ideal) ix0 = Ideal.ofBits FTy.f32 0x43000000#32 := by
    unfold val_main_call2_v8 val_main_call2_v7 val_main_call2_cst_1 val_main_c
    pointwise []
    exact lanes_eq
  rw [e8, if_pos lanes_pos]
  simp only [r57 x0 x1 x2 x3 x5 x6 x7 x8 x9 x10 x11 x12 x13 x14 x15 x16 s q h15]
  rfl

end Cert.Proof
-- ==== Proof.Soft.lean ====
/- The softmax of real scores, with the greatest score taken off first and without. -/
module

public import proofs.«01_k».proof.Proof.Consts
public import Idealize.ShloMosaic.Lib.Pointwise

@[expose] public section

noncomputable section

namespace Cert.Proof

open Idealize.ShloMosaic

/-- An extended real that is a real. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, taken among the extended reals. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ ?_ ?_
  · simp
  · intro a s ha ih
    rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- A real factor of no negative sign goes into a sum, whatever the terms are. -/
theorem sum_mul_coe {ι : Type} [Fintype ι] (f : ι → EReal) {c : ℝ} (hc : 0 ≤ c) :
    (∑ i, f i) * (c : EReal) = ∑ i, f i * (c : EReal) := by
  classical
  refine Finset.induction_on (motive := fun s => (∑ i ∈ s, f i) * (c : EReal) = ∑ i ∈ s, f i * (c : EReal)) Finset.univ ?_ ?_
  · simp
  · intro a s ha ih
    rw [Finset.sum_insert ha, Finset.sum_insert ha, ← ih,
      EReal.right_distrib_of_nonneg_of_ne_top (by exact_mod_cast hc) (EReal.coe_ne_top c)]

/-- The greatest of finitely many reals, taken from below everything, is a real. -/
theorem fold_max_real (S : Fin 8 → ℝ) : IsReal (Finset.univ.fold max (⊥ : EReal) fun k => (S k : EReal)) := by
  obtain ⟨k, -, hk⟩ := Finset.exists_max_image Finset.univ S ⟨0, Finset.mem_univ _⟩
  refine ⟨S k, le_antisymm ?_ ?_⟩
  · exact (Finset.fold_max_le (S k : EReal)).mpr ⟨bot_le, fun x hx => by exact_mod_cast hk x hx⟩
  · exact (Finset.le_fold_max (S k : EReal)).mpr (Or.inr ⟨k, Finset.mem_univ _, le_refl _⟩)

/-- A quotient of weighted sums of exponentials is the weighted sum of the quotients, the same amount taken off every
    exponent or not. -/
theorem soft_eq (S : Fin 8 → ℝ) (M : ℝ) (v : Fin 8 → EReal) :
    Ideal.div (∑ k, Ideal.exp (S k : EReal) * v k) (∑ k, Ideal.exp (S k : EReal))
      = ∑ k, v k * Ideal.div (Ideal.exp ((S k : EReal) - (M : EReal))) (∑ k, Ideal.exp ((S k : EReal) - (M : EReal))) := by
  have e1 : ∀ k, Ideal.exp ((S k : EReal) - (M : EReal)) = ((Real.exp (S k - M) : ℝ) : EReal) := fun k => by
    rw [← EReal.coe_sub]; rfl
  have e2 : ∀ k, Ideal.exp (S k : EReal) = ((Real.exp (S k) : ℝ) : EReal) := fun k => rfl
  have p1 : 0 < ∑ k, Real.exp (S k) := Finset.sum_pos (fun k _ => Real.exp_pos _) ⟨0, Finset.mem_univ _⟩
  have p2 : 0 < ∑ k, Real.exp (S k - M) := Finset.sum_pos (fun k _ => Real.exp_pos _) ⟨0, Finset.mem_univ _⟩
  simp only [e1, e2]
  rw [← coe_sum, ← coe_sum, Ideal.div_coe p1.ne', sum_mul_coe _ (one_div_pos.mpr p1).le]
  refine Finset.sum_congr rfl fun k _ => ?_
  rw [Ideal.div_coe p2.ne', mul_comm (_ : EReal) (v k), mul_assoc, ← EReal.coe_mul, ← EReal.coe_mul]
  congr 2
  have p3 : ∑ k, Real.exp (S k - M) = (∑ k, Real.exp (S k)) * Real.exp (-M) := by
    rw [Finset.sum_mul]
    exact Finset.sum_congr rfl fun k _ => by rw [← Real.exp_add, sub_eq_add_neg]
  rw [p3, sub_eq_add_neg, Real.exp_add]
  have := (Real.exp_pos (-M)).ne'
  field_simp

/-- The score of a key and a query: the query scaled first, or the product divided by the root of the lanes' count. -/
theorem score_eq (k q : Fin 128 → EReal) :
    ∑ x, k x * (q x * (((Real.sqrt 128)⁻¹ : ℝ) : EReal))
      = Ideal.div (∑ f, q f * k f) (Ideal.sqrt (Ideal.ofBits .f32 0x43000000#32)) := by
  have h0 : (0 : ℝ) < Real.sqrt 128 := Real.sqrt_pos.mpr (by norm_num)
  have e : Ideal.sqrt (Ideal.ofBits .f32 0x43000000#32) = ((Real.sqrt 128 : ℝ) : EReal) := by
    rw [lit_dim, Ideal.sqrt_coe, if_neg (by norm_num)]
  rw [e, Ideal.div_coe h0.ne', sum_mul_coe _ (one_div_pos.mpr h0).le]
  refine Finset.sum_congr rfl fun x _ => ?_
  rw [one_div, ← mul_assoc, mul_comm (k x) (q x)]

end Cert.Proof
-- ==== Proof.Near.lean ====
/- The kernel's attention over all rows is the reference's over the nearest ones. -/
module

public import proofs.«01_k».proof.Proof.RefRead
public import proofs.«01_k».proof.Proof.KIn
public import proofs.«01_k».proof.Proof.Soft

@[expose] public section

set_option maxRecDepth 16384

noncomputable section

namespace Cert.Proof

open Idealize.ShloMosaic

/-- A place among the real decoder rows, as one among the padded rows. -/
def padIx (j : Fin 12500) : Fin 12544 := ⟨j.val, by have := j.isLt; omega⟩

/-- A real of at most the precondition's bound. -/
def Bounded (x : EReal) : Prop := ∃ r : ℝ, x = (r : EReal) ∧ |r| ≤ 330000000

namespace Args

variable (A : Args)

/-- A real row's position is not the padding's. -/
theorem padP_pad (j : Fin 12500) : A.padP (padIx j) = A.dp j := by
  funext a
  exact dif_pos j.isLt

/-- A real row's features are not the padding's. -/
theorem padF_pad (j : Fin 12500) : A.padF (padIx j) = A.df j := by
  funext a
  exact dif_pos j.isLt

/-- A padded row lies far out. -/
theorem padP_far (j : Fin 12544) (h : 12500 ≤ j.val) (a : Fin 3) : A.padP j a = ((1000000000 : ℝ) : EReal) := by
  unfold padP
  rw [dif_neg (by omega), lit_far]

/-- The kernel's distance, as a real. -/
theorem dist_real (q : Fin 50000) (j : Fin 12544) (p e : Fin 3 → ℝ) (hp : ∀ a, A.padP j a = (p a : EReal))
    (he : ∀ a, A.ep q a = (e a : EReal)) :
    A.dist q j = (((p 0 - e 0) ^ 2 + (p 1 - e 1) ^ 2 + (p 2 - e 2) ^ 2 : ℝ) : EReal) := by
  have h3 : ∑ x : Fin 8, (if h : x.val < 3 then A.padP j ⟨x.val, h⟩ else 0) * (if h : x.val < 3 then A.ep q ⟨x.val, h⟩ else 0)
      = ((p 0 * e 0 + p 1 * e 1 + p 2 * e 2 : ℝ) : EReal) := by
    rw [Fin.sum_univ_eight]
    simp [hp, he]
  unfold dist sq3
  rw [h3, lit_two, hp, hp, hp, he, he, he]
  norm_cast
  ring

/-- The reference's distance is the kernel's at a real row. -/
theorem distR_eq (q : Fin 50000) (j : Fin 12500) : A.distR q j = A.dist q (padIx j) := by
  have h3 : ∑ x : Fin 8, (if h : x.val < 3 then A.dp j ⟨x.val, h⟩ else 0) * (if h : x.val < 3 then A.ep q ⟨x.val, h⟩ else 0)
      = ∑ a, A.ep q a * A.dp j a := by
    rw [Fin.sum_univ_eight, Fin.sum_univ_three]
    simp [mul_comm]
  unfold distR dist
  rw [A.padP_pad, h3, add_comm (sq3 (A.ep q))]

variable {A}

/-- The first eight of the rows sorted by distance are what the kernel's threshold keeps. -/
theorem nearest_of (q : Fin 50000) (hdp : ∀ j a, Bounded (A.dp j a)) (hep : ∀ a, Bounded (A.ep q a))
    (σ : Fin 12500 → Fin 12500) (hσ : Function.Surjective σ)
    (hmono : ∀ i j, i ≤ j → A.distR q (σ i) ≤ A.distR q (σ j))
    (hstrict : ∀ i : ℕ, (h : i < 8) → A.distR q (σ ⟨i, by omega⟩) < A.distR q (σ ⟨i + 1, by omega⟩))
    (hshare : ∀ i j k : Fin 8, i < j → j < k → (σ (i.castLE (by decide))).val / 64 = (σ (k.castLE (by decide))).val / 64 →
      (σ (j.castLE (by decide))).val / 64 ≠ (σ (k.castLE (by decide))).val / 64) :
    Nearest (A.dist q) (fun k => padIx (σ (k.castLE (by decide)))) := by
  choose e he heb using hep
  choose p hp hpb using hdp
  have hreal : ∀ j, A.dist q (padIx j) = (((p j 0 - e 0) ^ 2 + (p j 1 - e 1) ^ 2 + (p j 2 - e 2) ^ 2 : ℝ) : EReal) := fun j =>
    A.dist_real q (padIx j) (p j) e (fun a => by rw [A.padP_pad]; exact hp j a) he
  have hsq : ∀ x y : ℝ, |x| ≤ 330000000 → |y| ≤ 330000000 → (x - y) ^ 2 ≤ 435600000000000000 := fun x y hx hy => by
    obtain ⟨h1, h2⟩ := abs_le.mp hx
    obtain ⟨h3, h4⟩ := abs_le.mp hy
    nlinarith
  have hfar : ∀ y : ℝ, |y| ≤ 330000000 → 448900000000000000 ≤ (1000000000 - y) ^ 2 := fun y hy => by
    obtain ⟨h3, h4⟩ := abs_le.mp hy
    nlinarith
  refine ⟨fun i j hij => ?_, ?_, fun j => ?_, fun i j k hij hjk => hshare i j k hij hjk⟩
  · rw [← A.distR_eq, ← A.distR_eq]
    refine (hstrict i.val i.isLt).trans_le (hmono _ _ ?_)
    exact hij
  · show A.dist q (padIx _) < ⊤
    rw [hreal]
    exact EReal.coe_lt_top _
  · by_cases hj : j.val < 12500
    · obtain ⟨n, hn⟩ := hσ ⟨j.val, hj⟩
      have hjn : j = padIx (σ n) := Fin.ext (by rw [hn]; rfl)
      by_cases h8 : n.val < 8
      · exact Or.inl ⟨⟨n.val, h8⟩, hjn⟩
      · refine Or.inr ?_
        rw [hjn]
        show A.dist q (padIx _) < _
        rw [← A.distR_eq, ← A.distR_eq]
        refine (hstrict 7 (by decide)).trans_le (hmono _ _ ?_)
        show 8 ≤ n.val
        omega
    · refine Or.inr ?_
      show A.dist q (padIx _) < _
      rw [hreal, A.dist_real q j (fun _ => 1000000000) e (fun a => A.padP_far j (by omega) a) he, EReal.coe_lt_coe_iff]
      generalize σ (Fin.castLE (by decide : 8 ≤ 12500) (7 : Fin 8)) = s
      have := hsq _ _ (hpb s 0) (heb 0)
      have := hsq _ _ (hpb s 1) (heb 1)
      have := hsq _ _ (hpb s 2) (heb 2)
      have := hfar _ (heb 0)
      have := hfar _ (heb 1)
      have := hfar _ (heb 2)
      linarith

/-- Over the nearest rows the two attentions agree. -/
theorem agg_eq (q : Fin 50000) (s : Fin 8 → Fin 12500) (hs : Nearest (A.dist q) (fun k => padIx (s k)))
    (hdf : ∀ j k, IsReal (A.df j k)) (hef : ∀ k, IsReal (A.ef q k)) (hwq : ∀ j k, IsReal (A.wq j k)) (hbq : ∀ k, IsReal (A.bq k))
    (hwk : ∀ j k, IsReal (A.wk j k)) (hbk : ∀ k, IsReal (A.bk k)) (f : Fin 128) :
    aggK (A.dist q) A.key A.val (A.query q) f = A.aggR s q f := by
  have hkey : ∀ k, A.key (padIx (s k)) = proj (A.df (s k)) A.wk A.bk := fun k => by unfold key; rw [A.padF_pad]
  have hval : ∀ k, A.val (padIx (s k)) = proj (A.df (s k)) A.wv A.bv := fun k => by unfold val; rw [A.padF_pad]
  have hscore : ∀ k, ∑ x, A.key (padIx (s k)) x * A.query q x = A.scoreR s q k := fun k => by
    rw [hkey]
    unfold scoreR query
    rw [← score_eq]
    refine Finset.sum_congr rfl fun x _ => ?_
    unfold proj
    congr 3
    exact Finset.sum_congr rfl fun y _ => mul_comm _ _
  have hreal : ∀ k, IsReal (A.scoreR s q k) := fun k => by
    unfold scoreR
    rw [← score_eq]
    refine IsReal.sum fun x => IsReal.mul ?_ (IsReal.mul ?_ (isReal_coe _))
    · exact (IsReal.sum fun y => (hdf _ y).mul (hwk y x)).add (hbk x)
    · exact (IsReal.sum fun y => (hef y).mul (hwq y x)).add (hbq x)
  choose S hS using hreal
  have hS' : A.scoreR s q = fun k => (S k : EReal) := funext hS
  obtain ⟨M, hM⟩ := fold_max_real S
  have hden : ∑ j, wgt (A.dist q) (fun j => ∑ x, A.key j x * A.query q x) j = ∑ k, Ideal.exp (S k : EReal) := by
    refine (hs.sum_thr (fun j => Ideal.exp (∑ x, A.key j x * A.query q x)) _ (fun j hj => if_pos hj) (fun j hj => if_neg hj)).trans ?_
    exact Finset.sum_congr rfl fun k _ => by rw [hscore, hS]
  have hnum : ∑ j, wgt (A.dist q) (fun j => ∑ x, A.key j x * A.query q x) j * A.val j f
      = ∑ k, Ideal.exp (S k : EReal) * proj (A.df (s k)) A.wv A.bv f := by
    refine (hs.sum_thr (fun j => Ideal.exp (∑ x, A.key j x * A.query q x) * A.val j f) _ (fun j hj => ?_) (fun j hj => ?_)).trans ?_
    · unfold wgt
      rw [if_pos hj]
    · unfold wgt
      rw [if_neg hj, zero_mul]
    · exact Finset.sum_congr rfl fun k _ => by rw [hscore, hS, hval]
  unfold aggK aggR expR
  rw [hden, hnum, hS', lit_neg_inf, hM]
  exact soft_eq S M _

end Args

end Cert.Proof
-- ==== Proof.Pre.lean ====
/- The precondition read back: what it says of the arrays. -/
module

public import proofs.«01_k».proof.Pre_separated
public import proofs.«01_k».proof.Proof.Order
public import proofs.«01_k».proof.Proof.Near
public import proofs.«01_k».proof.Proof.RefRead
public import Idealize.ShloMosaic.Lib.ReduceAll
public import Idealize.ShloMosaic.Lib.StableHlo.Predicate

@[expose] public section

set_option maxRecDepth 16384

noncomputable section

namespace Cert.Proof

open Idealize.ShloMosaic Cert.Pre_separated

/-- The shape relations of the precondition's operations. -/
theorem pre_facts : Cert.Pre_separated.Facts := by
  constructor <;> decide +kernel

instance : Subsingleton S_.Idx := ⟨fun a b => funext fun i => i.elim0⟩

/-- A row's places in the order of their distances, the nearest first. -/
def nearFirst (x : S50000x12500.Idx → EReal) (q : Fin 50000) : Fin 12500 → Fin 12500 :=
  order fun j => -(x (ix2 q j))

/-- The chunk of a place, as the shift counts it. -/
theorem chunk_word (n : ℕ) (h : n < 12500) : (IntOp.shrui ArithUnit.host (BitVec.ofNat 32 n) 6#32).toNat = n / 64 := by
  unfold IntOp.shrui
  rw [if_pos (by decide)]
  simp only [BitVec.ushiftRight_eq', BitVec.toNat_ushiftRight, BitVec.toNat_ofNat]
  rw [Nat.shiftRight_eq_div_pow, Nat.mod_eq_of_lt (show n < 2 ^ 32 by omega)]

/-- A comparison's bit as the reals count it. -/
theorem eq_bit (a b : BitVec 32) : FloatOps.uitofp (F := Ideal) FTy.f32 (IntOp.cmpi .eq a b) =
    (((if a.toNat = b.toNat then 1 else 0 : ℕ) : ℝ) : EReal) := by
  by_cases h : a = b
  · subst h
    rw [if_pos rfl]
    show ((((IntOp.cmpi .eq a a).toNat : ℕ) : ℝ) : EReal) = _
    simp [IntOp.cmpi]
  · rw [if_neg (fun e => h (BitVec.eq_of_toNat_eq e))]
    show ((((IntOp.cmpi .eq a b).toNat : ℕ) : ℝ) : EReal) = _
    simp [IntOp.cmpi, h]

/-- Of eight numbers where none is met more than twice, no three agree. -/
theorem no_three (c : Fin 8 → ℕ) (k : Fin 8) (h : (∑ x, (if c k = c x then 1 else 0 : ℕ)) ≤ 2) (i j : Fin 8) (hij : i < j)
    (hjk : j < k) (e : c i = c k) : c j ≠ c k := by
  intro e'
  have h3 : ∑ x ∈ ({i, j, k} : Finset (Fin 8)), (if c k = c x then 1 else 0 : ℕ) ≤ ∑ x, (if c k = c x then 1 else 0 : ℕ) :=
    Finset.sum_le_sum_of_subset (Finset.subset_univ _)
  rw [Finset.sum_insert (by simp [hij.ne, (hij.trans hjk).ne]), Finset.sum_insert (by simp [hjk.ne]), Finset.sum_singleton,
    if_pos e.symm, if_pos e'.symm, if_pos rfl] at h3
  omega

/-- The precondition's last part: the eight nearest distances grow strictly, and no three of the nearest lie in one chunk. -/
theorem part3_at [Facts] (v38 : IVec S_ 1) (x : FVec Ideal S50000x12500 .f32) (h : fn_part3 (F := Ideal) v38 x ix0 = 1#1) :
    v38 ix0 = 1#1
    ∧ (∀ q : Fin 50000, ∀ i : ℕ, (hi : i < 8) →
        x (ix2 q (nearFirst x q ⟨i, by omega⟩)) < x (ix2 q (nearFirst x q ⟨i + 1, by omega⟩)))
    ∧ ∀ q : Fin 50000, ∀ i j k : Fin 8, i < j → j < k →
        (nearFirst x q (i.castLE (by decide))).val / 64 = (nearFirst x q (k.castLE (by decide))).val / 64 →
        (nearFirst x q (j.castLE (by decide))).val / 64 ≠ (nearFirst x q (k.castLE (by decide))).val / 64 := by
  unfold fn_part3 fn_part4 at h
  dsimp only at h
  obtain ⟨h, h3⟩ := IntOp.andi_eq_one.1 h
  obtain ⟨h1, h2⟩ := IntOp.andi_eq_one.1 h
  have top : ∀ (q : Fin 50000) (k : Fin 9), _ ∧ _ := fun q k =>
    topk_at (n := 9) (Host.negf (F := Ideal) (φ := .f32) x) Facts.sliceFits_S50000x12500_S50000x9 q k (by omega)
  refine ⟨h1, fun q i hi => ?_, fun q i j k hij hjk => ?_⟩
  · have := Host.reduce_andi_all _ _ _ _ _ h2 (ix2 q ⟨i, hi⟩)
    pointwise [] at this
    rw [StableHlo.Predicate.ofBool_eq_one_iff, decide_eq_true_eq, (top q _).1, (top q _).1] at this
    have e : ∀ k, (Host.negf (F := Ideal) (φ := .f32) x) (ix2 q k) = -(x (ix2 q k)) := fun _ => rfl
    rw [e, e, EReal.neg_lt_neg_iff] at this
    refine lt_of_lt_of_eq this (congrArg (fun z => x (ix2 q (nearFirst x q z))) (Fin.ext ?_))
    exact Nat.add_comm 1 i
  · have := Host.reduce_andi_all _ _ _ _ _ h3 (ix2 q k)
    pointwise [] at this
    rw [StableHlo.Predicate.ofBool_eq_one_iff, decide_eq_true_eq, lit_two] at this
    have hw : ∀ y : Fin 8, (IntOp.shrui ArithUnit.host
        ((Host.topK S50000x9 1 (FloatOps.cmpfTotal (F := Ideal) (φ := .f32) .gt) (Host.negf (F := Ideal) (φ := .f32) x) Facts.sliceFits_S50000x12500_S50000x9).2
          (ix2 q ⟨y.val, by omega⟩)) 6#32).toNat = (nearFirst x q (y.castLE (by decide))).val / 64 := by
      intro y
      rw [(top q _).2]
      exact chunk_word _ (Fin.isLt _)
    refine no_three (fun y : Fin 8 => (nearFirst x q (y.castLE (by decide))).val / 64) k ?_ i j hij hjk
    have hs : (((∑ y : Fin 8, (if (nearFirst x q (k.castLE (by decide))).val / 64 = (nearFirst x q (y.castLE (by decide))).val / 64
        then 1 else 0 : ℕ) : ℕ) : ℝ) : EReal) ≤ ((2 : ℝ) : EReal) := by
      refine le_of_eq_of_le ?_ this
      rw [Nat.cast_sum, coe_sum]
      refine Finset.sum_congr rfl fun y _ => ?_
      rw [eq_bit, hw k, hw y]
    have := EReal.coe_le_coe_iff.mp hs
    exact_mod_cast this

/-- The precondition's bound on a position, read back. -/
theorem bounded_of {x : EReal} (h : FloatOps.cmpf (F := Ideal) (φ := .f32) .ole (FloatOps.hostAbsf (F := Ideal) (φ := .f32) x)
    (FloatOps.ofBits .f32 0x4D9D5B34#32) = 1#1) : Bounded x := by
  have h' : Ideal.cmp .ole (max x (-x)) (Ideal.ofBits .f32 0x4D9D5B34#32) = 1#1 := h
  rw [lit_bound, Ideal.cmp, StableHlo.Predicate.ofBool_eq_one_iff, decide_eq_true_eq, max_le_iff] at h'
  induction x with
  | bot => simp at h'
  | top => simp at h'
  | coe r =>
    refine ⟨r, rfl, abs_le.mpr ?_⟩
    have h1 := EReal.coe_le_coe_iff.mp h'.1
    have h2 : (((-r : ℝ)) : EReal) ≤ ((330000000 : ℝ) : EReal) := h'.2
    have h3 := EReal.coe_le_coe_iff.mp h2
    constructor <;> linarith

/-- The precondition's finiteness of an element, read back. -/
theorem isReal_of {x : EReal} (h : FloatOps.cmpf (F := Ideal) (φ := .f32) .olt (FloatOps.hostAbsf (F := Ideal) (φ := .f32) x)
    (FloatOps.ofBits .f32 0x7F800000#32) = 1#1) : IsReal x := by
  have h' : Ideal.cmp .olt (max x (-x)) (Ideal.ofBits .f32 0x7F800000#32) = 1#1 := h
  rw [lit_inf, Ideal.cmp, StableHlo.Predicate.ofBool_eq_one_iff, decide_eq_true_eq, max_lt_iff] at h'
  induction x with
  | bot => simp at h'
  | top => simp at h'
  | coe r => exact ⟨r, rfl⟩

/-- What the precondition says of the arrays. -/
structure PreSays (x0 : S12500x128.Idx → EReal) (x1 : S12500x3.Idx → EReal) (x2 : S50000x128.Idx → EReal)
    (x3 : S50000x3.Idx → EReal) (x5 : S128x128.Idx → EReal) (x6 : S128.Idx → EReal) (x7 : S128x128.Idx → EReal)
    (x8 : S128.Idx → EReal) : Prop where
  dp : ∀ i, Bounded (x1 i)
  ep : ∀ i, Bounded (x3 i)
  df : ∀ i, IsReal (x0 i)
  ef : ∀ i, IsReal (x2 i)
  wq : ∀ i, IsReal (x5 i)
  bq : ∀ i, IsReal (x6 i)
  wk : ∀ i, IsReal (x7 i)
  bk : ∀ i, IsReal (x8 i)
  strict : ∀ q : Fin 50000, ∀ i : ℕ, (hi : i < 8) →
    Cert.ReferenceIdeal.Read.val_main_v13 (F := Ideal) x1 x3 (ix2 q (nearFirst (Cert.ReferenceIdeal.Read.val_main_v13 (F := Ideal) x1 x3) q ⟨i, by omega⟩))
    < Cert.ReferenceIdeal.Read.val_main_v13 (F := Ideal) x1 x3 (ix2 q (nearFirst (Cert.ReferenceIdeal.Read.val_main_v13 (F := Ideal) x1 x3) q ⟨i + 1, by omega⟩))
  share : ∀ q : Fin 50000, ∀ i j k : Fin 8, i < j → j < k →
    (nearFirst (Cert.ReferenceIdeal.Read.val_main_v13 (F := Ideal) x1 x3) q (i.castLE (by decide))).val / 64
      = (nearFirst (Cert.ReferenceIdeal.Read.val_main_v13 (F := Ideal) x1 x3) q (k.castLE (by decide))).val / 64 →
    (nearFirst (Cert.ReferenceIdeal.Read.val_main_v13 (F := Ideal) x1 x3) q (j.castLE (by decide))).val / 64
      ≠ (nearFirst (Cert.ReferenceIdeal.Read.val_main_v13 (F := Ideal) x1 x3) q (k.castLE (by decide))).val / 64

/-- The precondition, read back whole. -/
theorem pre_says [Facts] (x0 : S12500x128.Idx → EReal) (x1 : S12500x3.Idx → EReal) (x2 : S50000x128.Idx → EReal)
    (x3 : S50000x3.Idx → EReal) (x4 : IVec S50000 32) (x5 : S128x128.Idx → EReal) (x6 : S128.Idx → EReal) (x7 : S128x128.Idx → EReal)
    (x8 : S128.Idx → EReal) (x9 : S128x128.Idx → EReal) (x10 : S128.Idx → EReal) (x11 : S256x128.Idx → EReal) (x12 : S128.Idx → EReal)
    (x13 : S128x128.Idx → EReal) (x14 x15 x16 : S128.Idx → EReal)
    (h : fn (F := Ideal) x0 x1 x2 x3 x4 x5 x6 x7 x8 x9 x10 x11 x12 x13 x14 x15 x16 ix0 = 1#1) :
    PreSays x0 x1 x2 x3 x5 x6 x7 x8 := by
  unfold fn fn_part1 fn_part2 at h
  dsimp only at h
  obtain ⟨h38, hst, hsh⟩ := part3_at _ _ h
  obtain ⟨h33, h8⟩ := IntOp.andi_eq_one.1 h38
  obtain ⟨h28, h7⟩ := IntOp.andi_eq_one.1 h33
  obtain ⟨h23, h6⟩ := IntOp.andi_eq_one.1 h28
  obtain ⟨h18, h5⟩ := IntOp.andi_eq_one.1 h23
  obtain ⟨h13, h2⟩ := IntOp.andi_eq_one.1 h18
  obtain ⟨h08, h0⟩ := IntOp.andi_eq_one.1 h13
  obtain ⟨h1, h3⟩ := IntOp.andi_eq_one.1 h08
  refine ⟨fun i => bounded_of ?_, fun i => bounded_of ?_, fun i => isReal_of ?_, fun i => isReal_of ?_, fun i => isReal_of ?_,
    fun i => isReal_of ?_, fun i => isReal_of ?_, fun i => isReal_of ?_, hst, hsh⟩
  · exact Host.reduce_andi_all _ _ _ _ _ h1 i
  · exact Host.reduce_andi_all _ _ _ _ _ h3 i
  · exact Host.reduce_andi_all _ _ _ _ _ h0 i
  · exact Host.reduce_andi_all _ _ _ _ _ h2 i
  · exact Host.reduce_andi_all _ _ _ _ _ h5 i
  · exact Host.reduce_andi_all _ _ _ _ _ h6 i
  · exact Host.reduce_andi_all _ _ _ _ _ h7 i
  · exact Host.reduce_andi_all _ _ _ _ _ h8 i

end Cert.Proof
-- ==== Proof.RefTake.lean ====
/- The reference's take of its neighbours' rows. -/
module

public import proofs.«01_k».proof.Proof.RefRun
public import Idealize.ShloMosaic.Lib.StableHlo.Predicate
public import Idealize.ShloMosaic.Lib.Pointwise

@[expose] public section

set_option maxRecDepth 16384

noncomputable section

namespace Cert.Proof

open Idealize.ShloMosaic Cert.ReferenceIdeal Cert.ReferenceIdeal.Read

/-- The take reads the row that its start index names. -/
theorem gather_rows (x : S12500x128.Idx → EReal) (idx : IVec S50000x8x1 32) (q : Fin 50000) (k : Fin 8) (f : Fin 128) (n : Fin 12500)
    (h : idx (ix3 q k 0) = BitVec.ofNat 32 n.val) :
    Host.gather gather_S12500x128_S50000x8x1_S50000x8x128_2_0_n_n_0_2_1128 x idx (ix3 q k f) = x (ix2 n f) := by
  unfold Host.gather
  refine congrArg x (funext fun a => Fin.ext ?_)
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ (fun h => by simp [gather_S12500x128_S50000x8x1_S50000x8x128_2_0_n_n_0_2_1128] at h)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S12500x128_S50000x8x1_S50000x8x128_2_0_n_n_0_2_1128.startIndexMap from
      List.mem_singleton.mpr rfl)]
    have hsi : gather_S12500x128_S50000x8x1_S50000x8x128_2_0_n_n_0_2_1128.siIdx (ix3 q k f)
        ⟨List.idxOf (0 : Fin 2) gather_S12500x128_S50000x8x1_S50000x8x128_2_0_n_n_0_2_1128.startIndexMap,
          List.idxOf_lt_length_iff.2 (List.mem_singleton.mpr rfl)⟩ = ix3 q k 0 := by
      funext b
      refine Fin.ext ?_
      match b with
      | ⟨0, _⟩ => rfl
      | ⟨1, _⟩ => rfl
      | ⟨2, _⟩ => rfl
    rw [hsi, h]
    have hn := n.isLt
    have hi : (BitVec.ofNat 32 n.val).toInt = (n.val : Int) := by
      rw [BitVec.toInt_eq_toNat_of_lt (by rw [BitVec.toNat_ofNat]; omega), BitVec.toNat_ofNat]
      omega
    rw [hi]
    show min (Int.toNat (n.val : Int)) (12500 - 1) + 0 + 0 = n.val
    omega
  · unfold GatherDims.start
    rw [dif_neg (show ¬ (1 : Fin 2) ∈ gather_S12500x128_S50000x8x1_S50000x8x128_2_0_n_n_0_2_1128.startIndexMap from by
      decide)]
    show 0 + 0 + f.val = f.val
    omega

variable (x0 : (⟨S12500x128, .f32⟩ : BufTy).Contents (Elt Ideal)) (x1 : (⟨S12500x3, .f32⟩ : BufTy).Contents (Elt Ideal))
  (x3 : (⟨S50000x3, .f32⟩ : BufTy).Contents (Elt Ideal))

/-- The reference's neighbours are the rows its top-k names. -/
theorem r15 (q : Fin 50000) (k : Fin 8) (f : Fin 128) (n : Fin 12500)
    (h : val_main_indices (F := Ideal) x1 x3 (ix2 q k) = BitVec.ofNat 32 n.val) :
    val_main_v15 (F := Ideal) x0 x1 x3 (ix3 q k f) = x0 (ix2 n f) := by
  have hn := n.isLt
  have hi : (BitVec.ofNat 32 n.val).toInt = (n.val : Int) := by
    rw [BitVec.toInt_eq_toNat_of_lt (by rw [BitVec.toNat_ofNat]; omega), BitVec.toNat_ofNat]
    omega
  have e5 : val_main_call0_v5 (F := Ideal) x1 x3 (ix3 q k 0) = BitVec.ofNat 32 n.val := by
    unfold val_main_call0_v5 val_main_call0_v4 val_main_call0_v1 val_main_call0_v3 val_main_call0_v0 val_main_call0_v2
      val_main_call0_c val_main_call0_c_0
    pointwise []
    rw [h]
    have : IntOp.cmpi .slt (BitVec.ofNat 32 n.val) 0#32 = 0#1 := by
      have h0 : ¬ (n.val : Int) < 0 := by omega
      simp [IntOp.cmpi, BitVec.slt, hi, h0]
    rw [this]
    rfl
  have e12 : val_main_call0_v12 (F := Ideal) x1 x3 (ix2 q k) = 1#1 := by
    unfold val_main_call0_v12 val_main_call0_v11 val_main_call0_v10 val_main_call0_v7 val_main_call0_v9 val_main_call0_v8
      val_main_call0_v6 val_main_call0_c_1 val_main_call0_c_2 val_main_call0_c_3
    pointwise []
    rw [Finset.univ_unique, Finset.fold_singleton]
    show IntOp.andi (IntOp.andi (IntOp.cmpi .sge (val_main_call0_v5 (F := Ideal) x1 x3 (ix3 q k 0)) 0#32)
      (IntOp.cmpi .sle (val_main_call0_v5 (F := Ideal) x1 x3 (ix3 q k 0)) 12499#32)) 1#1 = 1#1
    rw [e5]
    have h1 : IntOp.cmpi .sge (BitVec.ofNat 32 n.val) 0#32 = 1#1 := by
      simp [IntOp.cmpi, BitVec.sle, hi]
    have h2 : IntOp.cmpi .sle (BitVec.ofNat 32 n.val) 12499#32 = 1#1 := by
      have : (n.val : Int) ≤ 12499 := by omega
      simp [IntOp.cmpi, BitVec.sle, hi, this]
    rw [h1, h2]
    rfl
  have e14 : val_main_call0_v14 (F := Ideal) x1 x3 (ix3 q k f) = 1#1 := by
    unfold val_main_call0_v14
    pointwise []
    exact e12
  rw [val_main_v15_apply, e14]
  show val_main_call0_v13 (F := Ideal) x0 x1 x3 (ix3 q k f) = _
  unfold val_main_call0_v13
  exact gather_rows x0 _ q k f n e5

end Cert.Proof
-- ==== Proof.Same.lean ====
/- The kernel's result is the reference's, under the precondition. -/
module

public import proofs.«01_k».proof.Proof.Pre
public import proofs.«01_k».proof.Proof.RefTake
public import proofs.«01_k».proof.Proof.Near

@[expose] public section

set_option maxRecDepth 16384

noncomputable section

namespace Cert.Proof

open Idealize.ShloMosaic Cert.ReferenceIdeal Cert.ReferenceIdeal.Read

/-- The place that the reference's top-k names. -/
theorem ref_index (x1 : S12500x3.Idx → EReal) (x3 : S50000x3.Idx → EReal) (q : Fin 50000) (k : Fin 8) :
    val_main_indices (F := Ideal) x1 x3 (ix2 q k)
      = BitVec.ofNat 32 (nearFirst (val_main_v13 (F := Ideal) x1 x3) q (k.castLE (by decide))).val :=
  (topk_at (n := 8) (val_main_v14 (F := Ideal) x1 x3) _ q k (by omega)).2

/-- The reference's first result at an index is the kernel's. -/
theorem same (x0 : S12500x128.Idx → EReal) (x1 : S12500x3.Idx → EReal) (x2 : S50000x128.Idx → EReal)
    (x3 : S50000x3.Idx → EReal) (x5 : S128x128.Idx → EReal) (x6 : S128.Idx → EReal) (x7 : S128x128.Idx → EReal)
    (x8 : S128.Idx → EReal) (x9 : S128x128.Idx → EReal) (x10 : S128.Idx → EReal) (x11 : S256x128.Idx → EReal) (x12 : S128.Idx → EReal)
    (x13 : S128x128.Idx → EReal) (x14 x15 x16 : S128.Idx → EReal) (hp : PreSays x0 x1 x2 x3 x5 x6 x7 x8) (q : Fin 50000) (f : Fin 128) :
    val_main_v75 (F := Ideal) x0 x1 x2 x3 x5 x6 x7 x8 x9 x10 x11 x12 x13 x14 x15 x16 (ix2 q f)
      = kOut (refArgs x0 x1 x2 x3 x5 x6 x7 x8 x9 x10 x11 x12 x13 x14 x15 x16) q f := by
  have hd := r13 x0 x1 x2 x3 x5 x6 x7 x8 x9 x10 x11 x12 x13 x14 x15 x16 q
  refine (r75 x0 x1 x2 x3 x5 x6 x7 x8 x9 x10 x11 x12 x13 x14 x15 x16
    (fun k => nearFirst (val_main_v13 (F := Ideal) x1 x3) q (k.castLE (by decide))) q
    (fun k f => r15 x0 x1 x3 q k f _ (ref_index x1 x3 q k)) f).trans ?_
  have hn : Nearest ((refArgs x0 x1 x2 x3 x5 x6 x7 x8 x9 x10 x11 x12 x13 x14 x15 x16).dist q)
      (fun k => padIx (nearFirst (val_main_v13 (F := Ideal) x1 x3) q (k.castLE (by decide)))) := by
    refine Args.nearest_of q (fun j a => hp.dp _) (fun a => hp.ep _) _ (order_surjective _) (fun i j hij => ?_) (fun i hi => ?_) (hp.share q)
    · rw [← hd, ← hd]
      exact EReal.neg_le_neg_iff.mp (order_anti (fun j => -(val_main_v13 (F := Ideal) x1 x3 (ix2 q j))) i j hij)
    · rw [← hd, ← hd]
      exact hp.strict q i hi
  unfold kOut
  refine congrArg (fun agg => Args.outOf _ agg q f) (funext fun g => ?_)
  exact (Args.agg_eq q _ hn (fun j k => hp.df _) (fun k => hp.ef _) (fun j k => hp.wq _) (fun k => hp.bq _) (fun j k => hp.wk _)
    (fun k => hp.bk _) g).symm

end Cert.Proof
-- ==== Proof.lean ====
module

public import proofs.«01_k».proof.Defs
public import proofs.«01_k».proof.Proof.RefRun
public import proofs.«01_k».proof.Proof.KRun
public import proofs.«01_k».proof.Proof.Same
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init

@[expose] public section

set_option maxRecDepth 16384

noncomputable section

namespace Cert.Proof

open Idealize.ShloMosaic Idealize.SL.Sem

/-- The reference's frame: its run leaves every argument as launched, and it declares no semaphore. -/
theorem frame_r : @Cert.quiescent_ReferenceIdeal Cert.ReferenceIdeal.Gen.facts := by
  intro m g _
  exact (θ_run Cert.ReferenceIdeal.defs _ _).mono
    (fun r h => ⟨fun c => (h c).2.2.2, sem_eq_zero_of_no_sems (by decide) r.2⟩)
    (Cert.ReferenceIdeal.Value.run (F := Ideal) m g)

/-- The reference's arguments, where they are the kernel's, are the kernel's. -/
theorem args_eq (m : (ℓ : Loc Cert.KernelIdeal.nD Cert.KernelIdeal.τ Cert.KernelIdeal.sig) → Buf (Elt Ideal) ℓ)
    (c : Dev Cert.KernelIdeal.nD) :
    refArgs (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg5)) (m (c.tc.loc Cert.KernelIdeal.main_arg6))
      (m (c.tc.loc Cert.KernelIdeal.main_arg7)) (m (c.tc.loc Cert.KernelIdeal.main_arg8))
      (m (c.tc.loc Cert.KernelIdeal.main_arg9)) (m (c.tc.loc Cert.KernelIdeal.main_arg10))
      (m (c.tc.loc Cert.KernelIdeal.main_arg11)) (m (c.tc.loc Cert.KernelIdeal.main_arg12))
      (m (c.tc.loc Cert.KernelIdeal.main_arg13)) (m (c.tc.loc Cert.KernelIdeal.main_arg14))
      (m (c.tc.loc Cert.KernelIdeal.main_arg15)) (m (c.tc.loc Cert.KernelIdeal.main_arg16)) = argsK m c := rfl

/-- Under the precondition the two runs end with the same results: the kernel's, row by row. -/
theorem value : @Cert.algebraic_KernelIdeal_ReferenceIdeal_pre_separated Cert.KernelIdeal.Gen.facts Cert.ReferenceIdeal.Gen.facts
    pre_facts := by
  haveI := pre_facts
  intro m g m' g' hpre hm
  refine ⟨fun c => (fun i : Cert.KernelIdeal.S50000x128.Idx => kOut (argsK m c) (i 0) (i 1)),
    fun c => m (c.tc.loc Cert.KernelIdeal.main_arg3), fun c => m (c.tc.loc Cert.KernelIdeal.main_arg4), ?_, ?_⟩
  · refine (θ_run (Cert.KernelIdeal.defs (F := Ideal)) _ _).mono (fun r h c => ?_) (k_value m g)
    obtain ⟨h, a0, a1, a2, a3, a4, a⟩ := h c
    exact ⟨h, a3, a4, a0, a1, a2, a3, a4, a⟩
  · refine (θ_run (Cert.ReferenceIdeal.defs (F := Ideal)) _ _).mono (fun r h c => ?_) (Cert.ReferenceIdeal.Value.run (F := Ideal) m' g')
    obtain ⟨h, b3, b4, a⟩ := h c
    obtain ⟨e0, e1, e2, e3, e4, e5, e6, e7, e8, e9, e10, e11, e12, e13, e14, e15, e16⟩ := hm c
    refine ⟨?_, b3.trans e3, b4.trans e4, a⟩
    refine (h.trans (Cert.ReferenceIdeal.Read.val_main_v75_eq (StableHlo.launchContents m' c))).trans ?_
    show Cert.ReferenceIdeal.Read.val_main_v75 (F := Ideal) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg5))
      (m' (c.tc.loc Cert.ReferenceIdeal.main_arg6)) (m' (c.tc.loc Cert.ReferenceIdeal.main_arg7))
      (m' (c.tc.loc Cert.ReferenceIdeal.main_arg8)) (m' (c.tc.loc Cert.ReferenceIdeal.main_arg9))
      (m' (c.tc.loc Cert.ReferenceIdeal.main_arg10)) (m' (c.tc.loc Cert.ReferenceIdeal.main_arg11))
      (m' (c.tc.loc Cert.ReferenceIdeal.main_arg12)) (m' (c.tc.loc Cert.ReferenceIdeal.main_arg13))
      (m' (c.tc.loc Cert.ReferenceIdeal.main_arg14)) (m' (c.tc.loc Cert.ReferenceIdeal.main_arg15))
      (m' (c.tc.loc Cert.ReferenceIdeal.main_arg16)) = _
    rw [e0, e1, e2, e3, e5, e6, e7, e8, e9, e10, e11, e12, e13, e14, e15, e16]
    refine funext fun i => ?_
    refine (congrArg _ (eq_ix2 i)).trans ?_
    refine (same _ _ _ _ _ _ _ _ _ _ _ _ _ _ _ _ (pre_says _ _ _ _ _ _ _ _ _ _ _ _ _ _ _ _ _ (congrFun (hpre c) ix0)) (i 0) (i 1)).trans ?_
    exact congrArg (fun A => kOut A (i 0) (i 1)) (args_eq m c)

/-- The claim's conjuncts in order: the programs' stated facts, the frames, the name's meaning and the results. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g,
    fun m g _ => Cert.KernelIdeal.Gen.frame m g, frame_r, fun m g _ => frame_r m g trivial,
    IdealRules.named_const.statement Cert.KernelIdeal.κ "scale" .f32 0x3DB504F3#32 (((Real.sqrt 128)⁻¹ : ℝ) : EReal) rfl,
    value⟩

end Cert.Proof

end
